-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S1024x8192 : Shape := ⟨2, ![1024, 8192]⟩
abbrev S2x1024x1024 : Shape := ⟨3, ![2, 1024, 1024]⟩
abbrev S4x1024x1024 : Shape := ⟨3, ![4, 1024, 1024]⟩
abbrev S3x1024x1024 : Shape := ⟨3, ![3, 1024, 1024]⟩
abbrev S2 : Shape := ⟨1, ![2]⟩
abbrev S4 : Shape := ⟨1, ![4]⟩
abbrev S3 : Shape := ⟨1, ![3]⟩
abbrev S8 : Shape := ⟨1, ![8]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S2x1024x1024, .fp8e4m3⟩
  | .local _ .vmem, ⟨1, _⟩ => ⟨S4x1024x1024, .fp8e4m3⟩
  | .local _ .vmem, ⟨2, _⟩ => ⟨S3x1024x1024, .fp8e4m3⟩
  | .local _ .vmem, ⟨3, _⟩ => ⟨S3x1024x1024, .fp8e5m2⟩
  | .local _ .vmem, ⟨4, _⟩ => ⟨S1024x8192, .f32⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 32 := Scalar.addi v2 c3_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v30 : BitVec 32 := Scalar.addi v2 c2_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.subi v2 c0_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let c0_i32_39 : BitVec 32 := 0#32
  ![v54.toNat, 0]
def k0_off2 (d0 : Dev nD) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v60 : BitVec 32 := Scalar.subi v2 c0_i32_40
  let c4_i32_41 : BitVec 32 := 4#32
  let c0_i32_42 : BitVec 32 := 0#32
  let v61 : BitVec 1 := Scalar.cmpi .eq c4_i32_41 c0_i32_42
  let c1_i32_43 : BitVec 32 := 1#32
  let v62 : BitVec 32 := Scalar.select v61 c1_i32_43 c4_i32_41
  let v63 : BitVec 32 := Scalar.remsi v60 v62
  let c0_i32_45 : BitVec 32 := 0#32
  let v65 : BitVec 1 := Scalar.cmpi .slt v63 c0_i32_45
  let c0_i32_46 : BitVec 32 := 0#32
  let v66 : BitVec 1 := Scalar.cmpi .slt v62 c0_i32_46
  let v67 : BitVec 1 := Scalar.xori v65 v66
  let c0_i32_44 : BitVec 32 := 0#32
  let v64 : BitVec 1 := Scalar.cmpi .ne v63 c0_i32_44
  let v68 : BitVec 1 := Scalar.andi v67 v64
  let v69 : BitVec 32 := Scalar.addi v63 v62
  let v70 : BitVec 32 := Scalar.select v68 v69 v63
  let c1024_i32_47 : BitVec 32 := 1024#32
  let v71 : BitVec 32 := Scalar.muli v70 c1024_i32_47
  let c1024_i32_52 : BitVec 32 := 1024#32
  ![v71.toNat, 1024]
def k0_off3 (d0 : Dev nD) (c1_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 32 := Scalar.addi v2 c1_i32_53
  let c4_i32_54 : BitVec 32 := 4#32
  let c0_i32_55 : BitVec 32 := 0#32
  let v78 : BitVec 1 := Scalar.cmpi .eq c4_i32_54 c0_i32_55
  let c1_i32_56 : BitVec 32 := 1#32
  let v79 : BitVec 32 := Scalar.select v78 c1_i32_56 c4_i32_54
  let v80 : BitVec 32 := Scalar.remsi v77 v79
  let c0_i32_58 : BitVec 32 := 0#32
  let v82 : BitVec 1 := Scalar.cmpi .slt v80 c0_i32_58
  let c0_i32_59 : BitVec 32 := 0#32
  let v83 : BitVec 1 := Scalar.cmpi .slt v79 c0_i32_59
  let v84 : BitVec 1 := Scalar.xori v82 v83
  let c0_i32_57 : BitVec 32 := 0#32
  let v81 : BitVec 1 := Scalar.cmpi .ne v80 c0_i32_57
  let v85 : BitVec 1 := Scalar.andi v84 v81
  let v86 : BitVec 32 := Scalar.addi v80 v79
  let v87 : BitVec 32 := Scalar.select v85 v86 v80
  let c1024_i32_60 : BitVec 32 := 1024#32
  let v88 : BitVec 32 := Scalar.muli v87 c1024_i32_60
  let c0_i32_65 : BitVec 32 := 0#32
  ![v88.toNat, 0]
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_97 : BitVec 32 := 1#32
  let v133 : BitVec 32 := Scalar.addi v2 c1_i32_97
  let c4_i32_98 : BitVec 32 := 4#32
  let c0_i32_99 : BitVec 32 := 0#32
  let v134 : BitVec 1 := Scalar.cmpi .eq c4_i32_98 c0_i32_99
  let c1_i32_100 : BitVec 32 := 1#32
  let v135 : BitVec 32 := Scalar.select v134 c1_i32_100 c4_i32_98
  let v136 : BitVec 32 := Scalar.remsi v133 v135
  let c0_i32_102 : BitVec 32 := 0#32
  let v138 : BitVec 1 := Scalar.cmpi .slt v136 c0_i32_102
  let c0_i32_103 : BitVec 32 := 0#32
  let v139 : BitVec 1 := Scalar.cmpi .slt v135 c0_i32_103
  let v140 : BitVec 1 := Scalar.xori v138 v139
  let c0_i32_101 : BitVec 32 := 0#32
  let v137 : BitVec 1 := Scalar.cmpi .ne v136 c0_i32_101
  let v141 : BitVec 1 := Scalar.andi v140 v137
  let v142 : BitVec 32 := Scalar.addi v136 v135
  let v143 : BitVec 32 := Scalar.select v141 v142 v136
  let c1_i32_108 : BitVec 32 := 1#32
  let v144 : BitVec 32 := Scalar.muli v143 c1_i32_108
  let v145 : BitVec 32 := Scalar.addi c0_i32_109 v144
  v145.toNat
def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_145 : BitVec 32 := 3#32
  let v193 : BitVec 32 := Scalar.addi v2 c3_i32_145
  let c4_i32_146 : BitVec 32 := 4#32
  let c0_i32_147 : BitVec 32 := 0#32
  let v194 : BitVec 1 := Scalar.cmpi .eq c4_i32_146 c0_i32_147
  let c1_i32_148 : BitVec 32 := 1#32
  let v195 : BitVec 32 := Scalar.select v194 c1_i32_148 c4_i32_146
  let v196 : BitVec 32 := Scalar.remsi v193 v195
  let c0_i32_150 : BitVec 32 := 0#32
  let v198 : BitVec 1 := Scalar.cmpi .slt v196 c0_i32_150
  let c0_i32_151 : BitVec 32 := 0#32
  let v199 : BitVec 1 := Scalar.cmpi .slt v195 c0_i32_151
  let v200 : BitVec 1 := Scalar.xori v198 v199
  let c0_i32_149 : BitVec 32 := 0#32
  let v197 : BitVec 1 := Scalar.cmpi .ne v196 c0_i32_149
  let v201 : BitVec 1 := Scalar.andi v200 v197
  let v202 : BitVec 32 := Scalar.addi v196 v195
  let v203 : BitVec 32 := Scalar.select v201 v202 v196
  let c1_i32_156 : BitVec 32 := 1#32
  let v204 : BitVec 32 := Scalar.muli v203 c1_i32_156
  let v205 : BitVec 32 := Scalar.addi c0_i32_157 v204
  v205.toNat
def k0_dev6 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_193 : BitVec 32 := 2#32
  let v253 : BitVec 32 := Scalar.addi v2 c2_i32_193
  let c4_i32_194 : BitVec 32 := 4#32
  let c0_i32_195 : BitVec 32 := 0#32
  let v254 : BitVec 1 := Scalar.cmpi .eq c4_i32_194 c0_i32_195
  let c1_i32_196 : BitVec 32 := 1#32
  let v255 : BitVec 32 := Scalar.select v254 c1_i32_196 c4_i32_194
  let v256 : BitVec 32 := Scalar.remsi v253 v255
  let c0_i32_198 : BitVec 32 := 0#32
  let v258 : BitVec 1 := Scalar.cmpi .slt v256 c0_i32_198
  let c0_i32_199 : BitVec 32 := 0#32
  let v259 : BitVec 1 := Scalar.cmpi .slt v255 c0_i32_199
  let v260 : BitVec 1 := Scalar.xori v258 v259
  let c0_i32_197 : BitVec 32 := 0#32
  let v257 : BitVec 1 := Scalar.cmpi .ne v256 c0_i32_197
  let v261 : BitVec 1 := Scalar.andi v260 v257
  let v262 : BitVec 32 := Scalar.addi v256 v255
  let v263 : BitVec 32 := Scalar.select v261 v262 v256
  let c1_i32_204 : BitVec 32 := 1#32
  let v264 : BitVec 32 := Scalar.muli v263 c1_i32_204
  let v265 : BitVec 32 := Scalar.addi c0_i32_205 v264
  v265.toNat
def k0_off4 (d0 : Dev nD) (c0_i32_233 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v301 : BitVec 32 := Scalar.subi v2 c0_i32_233
  let c4_i32_234 : BitVec 32 := 4#32
  let c0_i32_235 : BitVec 32 := 0#32
  let v302 : BitVec 1 := Scalar.cmpi .eq c4_i32_234 c0_i32_235
  let c1_i32_236 : BitVec 32 := 1#32
  let v303 : BitVec 32 := Scalar.select v302 c1_i32_236 c4_i32_234
  let v304 : BitVec 32 := Scalar.remsi v301 v303
  let c0_i32_238 : BitVec 32 := 0#32
  let v306 : BitVec 1 := Scalar.cmpi .slt v304 c0_i32_238
  let c0_i32_239 : BitVec 32 := 0#32
  let v307 : BitVec 1 := Scalar.cmpi .slt v303 c0_i32_239
  let v308 : BitVec 1 := Scalar.xori v306 v307
  let c0_i32_237 : BitVec 32 := 0#32
  let v305 : BitVec 1 := Scalar.cmpi .ne v304 c0_i32_237
  let v309 : BitVec 1 := Scalar.andi v308 v305
  let v310 : BitVec 32 := Scalar.addi v304 v303
  let v311 : BitVec 32 := Scalar.select v309 v310 v304
  let c1024_i32_240 : BitVec 32 := 1024#32
  let v312 : BitVec 32 := Scalar.muli v311 c1024_i32_240
  let c2048_i32 : BitVec 32 := 2048#32
  ![v312.toNat, 2048]
def k0_off5 (d0 : Dev nD) (c0_i32_263 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v341 : BitVec 32 := Scalar.subi v2 c0_i32_263
  let c4_i32_264 : BitVec 32 := 4#32
  let c0_i32_265 : BitVec 32 := 0#32
  let v342 : BitVec 1 := Scalar.cmpi .eq c4_i32_264 c0_i32_265
  let c1_i32_266 : BitVec 32 := 1#32
  let v343 : BitVec 32 := Scalar.select v342 c1_i32_266 c4_i32_264
  let v344 : BitVec 32 := Scalar.remsi v341 v343
  let c0_i32_268 : BitVec 32 := 0#32
  let v346 : BitVec 1 := Scalar.cmpi .slt v344 c0_i32_268
  let c0_i32_269 : BitVec 32 := 0#32
  let v347 : BitVec 1 := Scalar.cmpi .slt v343 c0_i32_269
  let v348 : BitVec 1 := Scalar.xori v346 v347
  let c0_i32_267 : BitVec 32 := 0#32
  let v345 : BitVec 1 := Scalar.cmpi .ne v344 c0_i32_267
  let v349 : BitVec 1 := Scalar.andi v348 v345
  let v350 : BitVec 32 := Scalar.addi v344 v343
  let v351 : BitVec 32 := Scalar.select v349 v350 v344
  let c1024_i32_270 : BitVec 32 := 1024#32
  let v352 : BitVec 32 := Scalar.muli v351 c1024_i32_270
  let c3072_i32 : BitVec 32 := 3072#32
  ![v352.toNat, 3072]
def k0_off6 (d0 : Dev nD) (c0_i32_293 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v381 : BitVec 32 := Scalar.subi v2 c0_i32_293
  let c4_i32_294 : BitVec 32 := 4#32
  let c0_i32_295 : BitVec 32 := 0#32
  let v382 : BitVec 1 := Scalar.cmpi .eq c4_i32_294 c0_i32_295
  let c1_i32_296 : BitVec 32 := 1#32
  let v383 : BitVec 32 := Scalar.select v382 c1_i32_296 c4_i32_294
  let v384 : BitVec 32 := Scalar.remsi v381 v383
  let c0_i32_298 : BitVec 32 := 0#32
  let v386 : BitVec 1 := Scalar.cmpi .slt v384 c0_i32_298
  let c0_i32_299 : BitVec 32 := 0#32
  let v387 : BitVec 1 := Scalar.cmpi .slt v383 c0_i32_299
  let v388 : BitVec 1 := Scalar.xori v386 v387
  let c0_i32_297 : BitVec 32 := 0#32
  let v385 : BitVec 1 := Scalar.cmpi .ne v384 c0_i32_297
  let v389 : BitVec 1 := Scalar.andi v388 v385
  let v390 : BitVec 32 := Scalar.addi v384 v383
  let v391 : BitVec 32 := Scalar.select v389 v390 v384
  let c1024_i32_300 : BitVec 32 := 1024#32
  let v392 : BitVec 32 := Scalar.muli v391 c1024_i32_300
  let c4096_i32 : BitVec 32 := 4096#32
  ![v392.toNat, 4096]
def k0_off7 (d0 : Dev nD) (c0_i32_323 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v421 : BitVec 32 := Scalar.subi v2 c0_i32_323
  let c4_i32_324 : BitVec 32 := 4#32
  let c0_i32_325 : BitVec 32 := 0#32
  let v422 : BitVec 1 := Scalar.cmpi .eq c4_i32_324 c0_i32_325
  let c1_i32_326 : BitVec 32 := 1#32
  let v423 : BitVec 32 := Scalar.select v422 c1_i32_326 c4_i32_324
  let v424 : BitVec 32 := Scalar.remsi v421 v423
  let c0_i32_328 : BitVec 32 := 0#32
  let v426 : BitVec 1 := Scalar.cmpi .slt v424 c0_i32_328
  let c0_i32_329 : BitVec 32 := 0#32
  let v427 : BitVec 1 := Scalar.cmpi .slt v423 c0_i32_329
  let v428 : BitVec 1 := Scalar.xori v426 v427
  let c0_i32_327 : BitVec 32 := 0#32
  let v425 : BitVec 1 := Scalar.cmpi .ne v424 c0_i32_327
  let v429 : BitVec 1 := Scalar.andi v428 v425
  let v430 : BitVec 32 := Scalar.addi v424 v423
  let v431 : BitVec 32 := Scalar.select v429 v430 v424
  let c1024_i32_330 : BitVec 32 := 1024#32
  let v432 : BitVec 32 := Scalar.muli v431 c1024_i32_330
  let c5120_i32 : BitVec 32 := 5120#32
  ![v432.toNat, 5120]
def k0_off8 (d0 : Dev nD) (c0_i32_353 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v461 : BitVec 32 := Scalar.subi v2 c0_i32_353
  let c4_i32_354 : BitVec 32 := 4#32
  let c0_i32_355 : BitVec 32 := 0#32
  let v462 : BitVec 1 := Scalar.cmpi .eq c4_i32_354 c0_i32_355
  let c1_i32_356 : BitVec 32 := 1#32
  let v463 : BitVec 32 := Scalar.select v462 c1_i32_356 c4_i32_354
  let v464 : BitVec 32 := Scalar.remsi v461 v463
  let c0_i32_358 : BitVec 32 := 0#32
  let v466 : BitVec 1 := Scalar.cmpi .slt v464 c0_i32_358
  let c0_i32_359 : BitVec 32 := 0#32
  let v467 : BitVec 1 := Scalar.cmpi .slt v463 c0_i32_359
  let v468 : BitVec 1 := Scalar.xori v466 v467
  let c0_i32_357 : BitVec 32 := 0#32
  let v465 : BitVec 1 := Scalar.cmpi .ne v464 c0_i32_357
  let v469 : BitVec 1 := Scalar.andi v468 v465
  let v470 : BitVec 32 := Scalar.addi v464 v463
  let v471 : BitVec 32 := Scalar.select v469 v470 v464
  let c1024_i32_360 : BitVec 32 := 1024#32
  let v472 : BitVec 32 := Scalar.muli v471 c1024_i32_360
  let c6144_i32 : BitVec 32 := 6144#32
  ![v472.toNat, 6144]
def k0_off9 (d0 : Dev nD) (c0_i32_383 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v501 : BitVec 32 := Scalar.subi v2 c0_i32_383
  let c4_i32_384 : BitVec 32 := 4#32
  let c0_i32_385 : BitVec 32 := 0#32
  let v502 : BitVec 1 := Scalar.cmpi .eq c4_i32_384 c0_i32_385
  let c1_i32_386 : BitVec 32 := 1#32
  let v503 : BitVec 32 := Scalar.select v502 c1_i32_386 c4_i32_384
  let v504 : BitVec 32 := Scalar.remsi v501 v503
  let c0_i32_388 : BitVec 32 := 0#32
  let v506 : BitVec 1 := Scalar.cmpi .slt v504 c0_i32_388
  let c0_i32_389 : BitVec 32 := 0#32
  let v507 : BitVec 1 := Scalar.cmpi .slt v503 c0_i32_389
  let v508 : BitVec 1 := Scalar.xori v506 v507
  let c0_i32_387 : BitVec 32 := 0#32
  let v505 : BitVec 1 := Scalar.cmpi .ne v504 c0_i32_387
  let v509 : BitVec 1 := Scalar.andi v508 v505
  let v510 : BitVec 32 := Scalar.addi v504 v503
  let v511 : BitVec 32 := Scalar.select v509 v510 v504
  let c1024_i32_390 : BitVec 32 := 1024#32
  let v512 : BitVec 32 := Scalar.muli v511 c1024_i32_390
  let c7168_i32 : BitVec 32 := 7168#32
  ![v512.toNat, 7168]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Common.lean ====
/-
# The kernel's memrefs and cells

Four devices hold a quarter of the columns of `x` each and all of `w`; device `c` computes the rows
`[1024 c, 1024 (c + 1))` of the product. The protocol, for a device `c` (all device numbers modulo 4):

* **Barrier cell** (the runtime's barrier semaphore of each device; one round of three units, one from each of the
  other devices). Device `c` signals `c + 1`, `c + 3` and `c + 2` and waits for three units. The unit that `c` pays on
  `c + d` hands over `c`'s landing slot `d - 1`, into which `c + d` will copy.
* **Send cells** 1, 3, 2 and **receive cells** 2, 0, 1 (one round, one landing of a whole slot each). Device `c` copies
  its slot `0`, `1`, `2` of the staged `x` blocks into landing slot `2`, `0`, `1` of device `c + 1`, `c + 3`, `c + 2`.
  The receive cell hands over the landing slot holding the sender's block, the send cell gives the source slot back.
* **Local cells**: two for the staging of `x` blocks, three for the chunks of `w`, eight for the result's columns.
  Only the device itself uses them, each for one copy at a time.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's own copy of the rounds library's algebra: a duty of a cell is named by a number below four. -/
abbrev UB : Type := URounds (GSem nD τ sig) (Fin 4)
/-- The pipeline library's copy, the protocol's copy, and the counters that local copies use. -/
abbrev UU : Type := UR sig nD τ × (UB × Counters)

local notation "𝕄" => MT nD τ sig Unit (Elt F) ℕ UU ℕ

/-- The pipeline's part of the ghost state. -/
abbrev EP : Emb (UR sig nD τ) (MT nD τ sig Unit (Elt F) ℕ UU ℕ) := embL
/-- The protocol's copy within the whole algebra. -/
def ER : Emb UB (MT nD τ sig Unit (Elt F) ℕ UU ℕ) :=
  ((Emb.inl : Emb UB (UB × Counters)).trans (Emb.inr : Emb (UB × Counters) UU)).trans (uEmb (nD := nD) (sig := sig) (Ix := Unit) (Val := Elt F) (Name := ℕ) (U := UU) (Lvl := ℕ)).toEmb
omit [FloatOps F] in
/-- The protocol's part of the ghost state is a part of the whole. -/
instance ER_landsIn : (ER : Emb UB 𝕄).LandsIn (upEmb : UEmb _ 𝕄) := by unfold ER; infer_instance

/-! ## Devices -/

set_option backward.proofsInPublic true in
/-- The device `d` places after `c`. -/
def nb (d : ℕ) (c : Dev nD) : Dev nD := ⟨(c.val + d) % 4, Nat.mod_lt _ (by decide)⟩

/-- Going on and going back. -/
theorem nb31 (c : Dev nD) : nb 3 (nb 1 c) = c := by revert c; decide
theorem nb13 (c : Dev nD) : nb 1 (nb 3 c) = c := by revert c; decide
theorem nb22 (c : Dev nD) : nb 2 (nb 2 c) = c := by revert c; decide

/-- The device numbers that the program computes are the neighbours. -/
theorem dev1_eq (c : Dev nD) : (⟨k0_dev1 c, k0_dev1_lt c⟩ : Dev nD) = nb 1 c := by revert c; decide
theorem dev2_eq (c : Dev nD) : (⟨k0_dev2 c, k0_dev2_lt c⟩ : Dev nD) = nb 3 c := by revert c; decide
theorem dev3_eq (c : Dev nD) : (⟨k0_dev3 c, k0_dev3_lt c⟩ : Dev nD) = nb 2 c := by revert c; decide
theorem dev4_eq (c : Dev nD) : (⟨k0_dev4 c, k0_dev4_lt c⟩ : Dev nD) = nb 1 c := by revert c; decide
theorem dev5_eq (c : Dev nD) : (⟨k0_dev5 c, k0_dev5_lt c⟩ : Dev nD) = nb 3 c := by revert c; decide
theorem dev6_eq (c : Dev nD) : (⟨k0_dev6 c, k0_dev6_lt c⟩ : Dev nD) = nb 2 c := by revert c; decide

/-! ## Memrefs -/

abbrev xM : Memref sig .tc .hbm S4096x1024 .fp8e4m3 := Memref.whole main_arg0
abbrev wM : Memref sig .tc .hbm S4096x8192 .fp8e5m2 := Memref.whole main_arg1
abbrev oM : Memref sig .tc .hbm S1024x8192 .f32 := Memref.whole main_v1
abbrev xsM : Memref sig .tc .vmem S2x1024x1024 .fp8e4m3 := Memref.whole cc0_scratch0
abbrev x8M : Memref sig .tc .vmem S4x1024x1024 .fp8e4m3 := Memref.whole cc0_scratch1
abbrev cmM : Memref sig .tc .vmem S3x1024x1024 .fp8e4m3 := Memref.whole cc0_scratch2
abbrev wbM : Memref sig .tc .vmem S3x1024x1024 .fp8e5m2 := Memref.whole cc0_scratch3
abbrev acM : Memref sig .tc .vmem S1024x8192 .f32 := Memref.whole cc0_scratch4

/-- Slot `k` of the staging buffer, of the staged blocks, of the landing buffer, of the `w` chunks. -/
abbrev xsSl (k : ℕ) (h : ∀ a, (![k, 0, 0] : Fin 3 → ℕ) a + S1x1024x1024.size a ≤ S2x1024x1024.size a) : Memref sig .tc .vmem S1024x1024 .fp8e4m3 :=
  (xsM.slice (Rect.unit (s := S2x1024x1024) ![k, 0, 0] S1x1024x1024.size h) (fun _ => rfl)).squeeze S1024x1024 squeezes_S1x1024x1024_S1024x1024
abbrev x8Sl (k : ℕ) (h : ∀ a, (![k, 0, 0] : Fin 3 → ℕ) a + S1x1024x1024.size a ≤ S4x1024x1024.size a) : Memref sig .tc .vmem S1024x1024 .fp8e4m3 :=
  (x8M.slice (Rect.unit (s := S4x1024x1024) ![k, 0, 0] S1x1024x1024.size h) (fun _ => rfl)).squeeze S1024x1024 squeezes_S1x1024x1024_S1024x1024
abbrev cmSl (k : ℕ) (h : ∀ a, (![k, 0, 0] : Fin 3 → ℕ) a + S1x1024x1024.size a ≤ S3x1024x1024.size a) : Memref sig .tc .vmem S1024x1024 .fp8e4m3 :=
  (cmM.slice (Rect.unit (s := S3x1024x1024) ![k, 0, 0] S1x1024x1024.size h) (fun _ => rfl)).squeeze S1024x1024 squeezes_S1x1024x1024_S1024x1024
abbrev wbSl (k : ℕ) (h : ∀ a, (![k, 0, 0] : Fin 3 → ℕ) a + S1x1024x1024.size a ≤ S3x1024x1024.size a) : Memref sig .tc .vmem S1024x1024 .fp8e5m2 :=
  (wbM.slice (Rect.unit (s := S3x1024x1024) ![k, 0, 0] S1x1024x1024.size h) (fun _ => rfl)).squeeze S1024x1024 squeezes_S1x1024x1024_S1024x1024

/-- The 1024 columns from column `o` of the accumulator, of the result. -/
abbrev acSl (o : ℕ) (h : ∀ a, (![0, o] : Fin 2 → ℕ) a + S1024x1024.size a ≤ S1024x8192.size a) : Memref sig .tc .vmem S1024x1024 .f32 :=
  acM.slice (Rect.unit (s := S1024x8192) ![0, o] S1024x1024.size h) (fun _ => rfl)
abbrev oSl (o : ℕ) (h : ∀ a, (![0, o] : Fin 2 → ℕ) a + S1024x1024.size a ≤ S1024x8192.size a) : Memref sig .tc .hbm S1024x1024 .f32 :=
  oM.slice (Rect.unit (s := S1024x8192) ![0, o] S1024x1024.size h) (fun _ => rfl)

/-- The rows of the device's quarter of `x` that the kernel stages as block `d`: those of device `c + d`. -/
abbrev xSrc (c : Dev nD) (d : BitVec 32) (h : ∀ a, (k0_off3 c d) a + S1024x1024.size a ≤ S4096x1024.size a) : Memref sig .tc .hbm S1024x1024 .fp8e4m3 :=
  xM.slice (Rect.unit (s := S4096x1024) (k0_off3 c d) S1024x1024.size h) (fun _ => rfl)

/-! ## Semaphores and cells -/

/-- The runtime's barrier semaphore. -/
abbrev barS : Sem sig := (SemArray.scalar (sig.barrier 0 rfl) : Sems sig S_).sem
abbrev xsS (k : ℕ) (h : ∀ a, (![k] : Fin 1 → ℕ) a + S1.size a ≤ S2.size a) : DmaSems sig S_ :=
  ((cc0_scratch5 : DmaSems sig S2).slice (Rect.unit (s := S2) ![k] S1.size h)).squeeze S_ squeezes_S1_S_
abbrev sendS (k : ℕ) (h : ∀ a, (![k] : Fin 1 → ℕ) a + S1.size a ≤ S4.size a) : DmaSems sig S_ :=
  ((cc0_scratch6 : DmaSems sig S4).slice (Rect.unit (s := S4) ![k] S1.size h)).squeeze S_ squeezes_S1_S_
abbrev recvS (k : ℕ) (h : ∀ a, (![k] : Fin 1 → ℕ) a + S1.size a ≤ S3.size a) : DmaSems sig S_ :=
  ((cc0_scratch7 : DmaSems sig S3).slice (Rect.unit (s := S3) ![k] S1.size h)).squeeze S_ squeezes_S1_S_
abbrev wS (k : ℕ) (h : ∀ a, (![k] : Fin 1 → ℕ) a + S1.size a ≤ S3.size a) : DmaSems sig S_ :=
  ((cc0_scratch8 : DmaSems sig S3).slice (Rect.unit (s := S3) ![k] S1.size h)).squeeze S_ squeezes_S1_S_
abbrev outS (k : ℕ) (h : ∀ a, (![k] : Fin 1 → ℕ) a + S1.size a ≤ S8.size a) : DmaSems sig S_ :=
  ((cc0_scratch9 : DmaSems sig S8).slice (Rect.unit (s := S8) ![k] S1.size h)).squeeze S_ squeezes_S1_S_

abbrev barCell (c : Dev nD) : GSem nD τ sig := (Dev.tc c, .reg barS)
abbrev sendCell1 (c : Dev nD) : GSem nD τ sig := (Dev.tc c, .dma (sendS 1 inb_S4_S1_1).sem)
abbrev sendCell2 (c : Dev nD) : GSem nD τ sig := (Dev.tc c, .dma (sendS 2 inb_S4_S1_2).sem)
abbrev sendCell3 (c : Dev nD) : GSem nD τ sig := (Dev.tc c, .dma (sendS 3 inb_S4_S1_3).sem)
abbrev recvCell0 (c : Dev nD) : GSem nD τ sig := (Dev.tc c, .dma (recvS 0 inb_S3_S1_0).sem)
abbrev recvCell1 (c : Dev nD) : GSem nD τ sig := (Dev.tc c, .dma (recvS 1 inb_S3_S1_1).sem)
abbrev recvCell2 (c : Dev nD) : GSem nD τ sig := (Dev.tc c, .dma (recvS 2 inb_S3_S1_2).sem)

abbrev cm0 : Memref sig .tc .vmem S1024x1024 .fp8e4m3 := cmSl 0 inb_S3x1024x1024_S1x1024x1024_0_0_0
abbrev cm1 : Memref sig .tc .vmem S1024x1024 .fp8e4m3 := cmSl 1 inb_S3x1024x1024_S1x1024x1024_1_0_0
abbrev cm2 : Memref sig .tc .vmem S1024x1024 .fp8e4m3 := cmSl 2 inb_S3x1024x1024_S1x1024x1024_2_0_0
abbrev x80 : Memref sig .tc .vmem S1024x1024 .fp8e4m3 := x8Sl 0 inb_S4x1024x1024_S1x1024x1024_0_0_0
abbrev x81 : Memref sig .tc .vmem S1024x1024 .fp8e4m3 := x8Sl 1 inb_S4x1024x1024_S1x1024x1024_1_0_0
abbrev x82 : Memref sig .tc .vmem S1024x1024 .fp8e4m3 := x8Sl 2 inb_S4x1024x1024_S1x1024x1024_2_0_0
abbrev x83 : Memref sig .tc .vmem S1024x1024 .fp8e4m3 := x8Sl 3 inb_S4x1024x1024_S1x1024x1024_3_0_0

/-- The credit of one landing of a slot. -/
abbrev N : ℕ := cm0.view.dmaCredit
theorem N_pos : 0 < N := View.dmaCredit_pos _ (by decide)
theorem cm1_credit : cm1.view.dmaCredit = N := rfl
theorem cm2_credit : cm2.view.dmaCredit = N := rfl
theorem x80_credit : x80.view.dmaCredit = N := rfl
theorem x81_credit : x81.view.dmaCredit = N := rfl
theorem x82_credit : x82.view.dmaCredit = N := rfl

end Cert.KernelIdealProof
-- ==== Proof.KernelIdeal.Sched.lean ====
/-
# The protocol's schedule

Contents handed over by the landings, the schedule under the rounds library, its tables as rewriting rules, what each
device owes at launch, and the levels that make the waits safe.
-/
module

public import proofs.«01_k».proof.Proof.KernelIdeal.Common

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Block `d` of device `c`: the rows of its quarter of `x` that belong to device `c + d`. -/
def xblk (c : Dev nD) (d : BitVec 32) (h : ∀ a, (k0_off3 c d) a + S1024x1024.size a ≤ S4096x1024.size a) : Vec F S1024x1024 .fp8e4m3 :=
  (xSrc c d h).view.read (Elt F) (m (c.tc.loc main_arg0))

/-- The staged-block buffer of device `c` with slot 0, 1, 2, 3 holding block 1, 3, 2, 0. -/
def x8C0 (c : Dev nD) : Buf (Elt F) (x80.view.loc (Dev.tc c : Thread nD τ)) := x80.view.write (Elt F) (m (c.tc.loc cc0_scratch1)) (xblk m c 1#32 (k0_off3_inb c 1)) Finset.univ
def x8C1 (c : Dev nD) : Buf (Elt F) (x81.view.loc (Dev.tc c : Thread nD τ)) := x81.view.write (Elt F) (m (c.tc.loc cc0_scratch1)) (xblk m c 3#32 (k0_off3_inb c 3)) Finset.univ
def x8C2 (c : Dev nD) : Buf (Elt F) (x82.view.loc (Dev.tc c : Thread nD τ)) := x82.view.write (Elt F) (m (c.tc.loc cc0_scratch1)) (xblk m c 2#32 (k0_off3_inb c 2)) Finset.univ
def x8C3 (c : Dev nD) : Buf (Elt F) (x83.view.loc (Dev.tc c : Thread nD τ)) := x83.view.write (Elt F) (m (c.tc.loc cc0_scratch1)) (xblk m c 0#32 (k0_off3_inb c 0)) Finset.univ

/-! ## Payloads -/

/-- Landing slot 0, 1, 2 of device `t` at some contents, and round 0 of its receive cell reached: what `t`'s unit on a
    barrier cell hands over. -/
def barPay0 (t : Dev nD) : sProp 𝕄 := iprop((∃ f : Buf (Elt F) (cm0.view.loc (Dev.tc t : Thread nD τ)), cm0.view.loc (Dev.tc t : Thread nD τ) ↦[cm0.view.set]{fullShare} f) ∗ reached ER (recvCell0 t) 0)
def barPay1 (t : Dev nD) : sProp 𝕄 := iprop((∃ f : Buf (Elt F) (cm1.view.loc (Dev.tc t : Thread nD τ)), cm1.view.loc (Dev.tc t : Thread nD τ) ↦[cm1.view.set]{fullShare} f) ∗ reached ER (recvCell1 t) 0)
def barPay2 (t : Dev nD) : sProp 𝕄 := iprop((∃ f : Buf (Elt F) (cm2.view.loc (Dev.tc t : Thread nD τ)), cm2.view.loc (Dev.tc t : Thread nD τ) ↦[cm2.view.set]{fullShare} f) ∗ reached ER (recvCell2 t) 0)

/-- Landing slot 0, 1, 2 of device `t` holding the block that device `s` sent. -/
def recvPay0 (t s : Dev nD) : sProp 𝕄 := iprop(∃ f : Buf (Elt F) (cm0.view.loc (Dev.tc t : Thread nD τ)), cm0.view.loc (Dev.tc t : Thread nD τ) ↦[cm0.view.set]{fullShare}
  (cm0.view.write (Elt F) f (x81.view.read (Elt F) (x8C1 m s)) Finset.univ))
def recvPay1 (t s : Dev nD) : sProp 𝕄 := iprop(∃ f : Buf (Elt F) (cm1.view.loc (Dev.tc t : Thread nD τ)), cm1.view.loc (Dev.tc t : Thread nD τ) ↦[cm1.view.set]{fullShare}
  (cm1.view.write (Elt F) f (x82.view.read (Elt F) (x8C2 m s)) Finset.univ))
def recvPay2 (t s : Dev nD) : sProp 𝕄 := iprop(∃ f : Buf (Elt F) (cm2.view.loc (Dev.tc t : Thread nD τ)), cm2.view.loc (Dev.tc t : Thread nD τ) ↦[cm2.view.set]{fullShare}
  (cm2.view.write (Elt F) f (x80.view.read (Elt F) (x8C0 m s)) Finset.univ))

/-- The source slot that a send gives back: slot 0, 2, 1 for send cell 1, 2, 3. -/
def sendPay1 (c : Dev nD) : sProp 𝕄 := x80.view.loc (Dev.tc c : Thread nD τ) ↦[x80.view.set]{fullShare} x8C0 m c
def sendPay2 (c : Dev nD) : sProp 𝕄 := x82.view.loc (Dev.tc c : Thread nD τ) ↦[x82.view.set]{fullShare} x8C2 m c
def sendPay3 (c : Dev nD) : sProp 𝕄 := x81.view.loc (Dev.tc c : Thread nD τ) ↦[x81.view.set]{fullShare} x8C1 m c

/-! What each payload is, as an equation. -/

theorem barPay0_eq (t : Dev nD) : barPay0 (F := F) t = iprop((∃ f : Buf (Elt F) (cm0.view.loc (Dev.tc t : Thread nD τ)), cm0.view.loc (Dev.tc t : Thread nD τ) ↦[cm0.view.set]{fullShare} f) ∗ reached ER (recvCell0 t) 0) := rfl
theorem barPay1_eq (t : Dev nD) : barPay1 (F := F) t = iprop((∃ f : Buf (Elt F) (cm1.view.loc (Dev.tc t : Thread nD τ)), cm1.view.loc (Dev.tc t : Thread nD τ) ↦[cm1.view.set]{fullShare} f) ∗ reached ER (recvCell1 t) 0) := rfl
theorem barPay2_eq (t : Dev nD) : barPay2 (F := F) t = iprop((∃ f : Buf (Elt F) (cm2.view.loc (Dev.tc t : Thread nD τ)), cm2.view.loc (Dev.tc t : Thread nD τ) ↦[cm2.view.set]{fullShare} f) ∗ reached ER (recvCell2 t) 0) := rfl
theorem recvPay0_eq (t s : Dev nD) : recvPay0 m t s = iprop(∃ f : Buf (Elt F) (cm0.view.loc (Dev.tc t : Thread nD τ)), cm0.view.loc (Dev.tc t : Thread nD τ) ↦[cm0.view.set]{fullShare}
  (cm0.view.write (Elt F) f (x81.view.read (Elt F) (x8C1 m s)) Finset.univ)) := rfl
theorem recvPay1_eq (t s : Dev nD) : recvPay1 m t s = iprop(∃ f : Buf (Elt F) (cm1.view.loc (Dev.tc t : Thread nD τ)), cm1.view.loc (Dev.tc t : Thread nD τ) ↦[cm1.view.set]{fullShare}
  (cm1.view.write (Elt F) f (x82.view.read (Elt F) (x8C2 m s)) Finset.univ)) := rfl
theorem recvPay2_eq (t s : Dev nD) : recvPay2 m t s = iprop(∃ f : Buf (Elt F) (cm2.view.loc (Dev.tc t : Thread nD τ)), cm2.view.loc (Dev.tc t : Thread nD τ) ↦[cm2.view.set]{fullShare}
  (cm2.view.write (Elt F) f (x80.view.read (Elt F) (x8C0 m s)) Finset.univ)) := rfl
theorem sendPay1_eq (c : Dev nD) : sendPay1 m c = iprop(x80.view.loc (Dev.tc c : Thread nD τ) ↦[x80.view.set]{fullShare} x8C0 m c) := rfl
theorem sendPay2_eq (c : Dev nD) : sendPay2 m c = iprop(x82.view.loc (Dev.tc c : Thread nD τ) ↦[x82.view.set]{fullShare} x8C2 m c) := rfl
theorem sendPay3_eq (c : Dev nD) : sendPay3 m c = iprop(x81.view.loc (Dev.tc c : Thread nD τ) ↦[x81.view.set]{fullShare} x8C1 m c) := rfl

/-! ## The schedule -/

/-- A barrier cell, and a send or receive cell, of a device's core. -/
abbrev IsBar (g : GSem nD τ sig) : Prop := g.1.2 = .tc ∧ g.2 = .reg barS
abbrev IsXfer (g : GSem nD τ sig) : Prop := g.1.2 = .tc ∧
  (g.2 = .dma (sendS 1 inb_S4_S1_1).sem ∨ g.2 = .dma (sendS 2 inb_S4_S1_2).sem ∨ g.2 = .dma (sendS 3 inb_S4_S1_3).sem
    ∨ g.2 = .dma (recvS 0 inb_S3_S1_0).sem ∨ g.2 = .dma (recvS 1 inb_S3_S1_1).sem ∨ g.2 = .dma (recvS 2 inb_S3_S1_2).sem)

/-- One round, round 0: a barrier cell has the duties 1, 2, 3 of one unit each, duty `d` paid by the device `d` places
    before; a send or receive cell has the duty 0 of one landing's credit. -/
def rd : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then (if d = 1 then barPay0 (nb 3 g.1.1) else if d = 2 then barPay1 (nb 2 g.1.1) else if d = 3 then barPay2 (nb 1 g.1.1) else iprop(emp))
    else if g.2 = .dma (recvS 0 inb_S3_S1_0).sem then recvPay0 m g.1.1 (nb 1 g.1.1)
    else if g.2 = .dma (recvS 1 inb_S3_S1_1).sem then recvPay1 m g.1.1 (nb 2 g.1.1)
    else if g.2 = .dma (recvS 2 inb_S3_S1_2).sem then recvPay2 m g.1.1 (nb 3 g.1.1)
    else if g.2 = .dma (sendS 1 inb_S4_S1_1).sem then sendPay1 m g.1.1
    else if g.2 = .dma (sendS 2 inb_S4_S1_2).sem then sendPay2 m g.1.1
    else if g.2 = .dma (sendS 3 inb_S4_S1_3).sem then sendPay3 m g.1.1
    else iprop(emp)
  amount_pos g _ _ _ := by
    by_cases h : g.2 = .reg barS
    · rw [if_pos h]; exact Nat.one_pos
    · rw [if_neg h]; exact N_pos

/-- What a cell hands over may be kept in an invariant. -/
instance rd_payload_storable (g : GSem nD τ sig) (r : ℕ) (d : Fin 4) :
    BI.Storable (upEmb : UEmb _ 𝕄) ((rd (F := F) m).payload g r d) := by
  dsimp only [rd]
  unfold barPay0 barPay1 barPay2 recvPay0 recvPay1 recvPay2 sendPay1 sendPay2 sendPay3
  (repeat' split) <;> infer_instance

/-! ## The tables -/

section Tables
variable (c : Dev nD)

/-- A copy counter is no barrier. -/
theorem not_bar_dma (q : DmaSem sig) : ¬ IsBar ((Dev.tc c, .dma q) : GSem nD τ sig) := fun h => by cases h.2

/-- The duties of a send or receive cell, from its being one. -/
theorem duties_xfer (q : DmaSem sig) (h : IsXfer ((Dev.tc c, .dma q) : GSem nD τ sig)) : (rd (F := F) m).duties (Dev.tc c, .dma q) 0 = {0} := by
  dsimp only [rd]; rw [if_neg (fun h => not_bar_dma c q h.2)]; exact if_pos ⟨rfl, h⟩
/-- The amount of a transfer's duty. -/
theorem amount_xfer (q : DmaSem sig) (d : Fin 4) : (rd (F := F) m).amount (Dev.tc c, .dma q) 0 d = N := by
  dsimp only [rd]; exact if_neg fun h => by cases h
/-- The credit a send or receive cell's round expects. -/
theorem expect_xfer (q : DmaSem sig) (h : IsXfer ((Dev.tc c, .dma q) : GSem nD τ sig)) : (rd (F := F) m).expect (Dev.tc c, .dma q) 0 = N := by
  unfold Schedule.expect Schedule.amountOf; rw [duties_xfer m c q h, Finset.sum_singleton, amount_xfer]

/-- The six cells that copies complete on. -/
theorem isXfer_send1 : IsXfer (sendCell1 c) := ⟨rfl, .inl rfl⟩
theorem isXfer_send2 : IsXfer (sendCell2 c) := ⟨rfl, .inr (.inl rfl)⟩
theorem isXfer_send3 : IsXfer (sendCell3 c) := ⟨rfl, .inr (.inr (.inl rfl))⟩
theorem isXfer_recv0 : IsXfer (recvCell0 c) := ⟨rfl, .inr (.inr (.inr (.inl rfl)))⟩
theorem isXfer_recv1 : IsXfer (recvCell1 c) := ⟨rfl, .inr (.inr (.inr (.inr (.inl rfl))))⟩
theorem isXfer_recv2 : IsXfer (recvCell2 c) := ⟨rfl, .inr (.inr (.inr (.inr (.inr rfl))))⟩

/-- The barrier's round: three units of one, -/
theorem duties_bar : (rd (F := F) m).duties (barCell c) 0 = {1, 2, 3} := by dsimp only [rd]; exact if_pos ⟨rfl, rfl, rfl⟩
theorem amount_bar (d : Fin 4) : (rd (F := F) m).amount (barCell c) 0 d = 1 := by dsimp only [rd]; exact if_pos rfl
theorem expect_bar : (rd (F := F) m).expect (barCell c) 0 = 3 := by
  unfold Schedule.expect Schedule.amountOf
  rw [duties_bar, Finset.sum_congr rfl fun d _ => amount_bar m c d]; rfl
/-- and each copy's: one landing of a whole slot. -/
theorem duties_send1 : (rd (F := F) m).duties (sendCell1 c) 0 = {0} := duties_xfer m c _ (isXfer_send1 c)
theorem amount_send1 (d : Fin 4) : (rd (F := F) m).amount (sendCell1 c) 0 d = N := amount_xfer m c _ d
theorem expect_send1 : (rd (F := F) m).expect (sendCell1 c) 0 = N := expect_xfer m c _ (isXfer_send1 c)
theorem duties_send2 : (rd (F := F) m).duties (sendCell2 c) 0 = {0} := duties_xfer m c _ (isXfer_send2 c)
theorem amount_send2 (d : Fin 4) : (rd (F := F) m).amount (sendCell2 c) 0 d = N := amount_xfer m c _ d
theorem expect_send2 : (rd (F := F) m).expect (sendCell2 c) 0 = N := expect_xfer m c _ (isXfer_send2 c)
theorem duties_send3 : (rd (F := F) m).duties (sendCell3 c) 0 = {0} := duties_xfer m c _ (isXfer_send3 c)
theorem amount_send3 (d : Fin 4) : (rd (F := F) m).amount (sendCell3 c) 0 d = N := amount_xfer m c _ d
theorem expect_send3 : (rd (F := F) m).expect (sendCell3 c) 0 = N := expect_xfer m c _ (isXfer_send3 c)
theorem duties_recv0 : (rd (F := F) m).duties (recvCell0 c) 0 = {0} := duties_xfer m c _ (isXfer_recv0 c)
theorem amount_recv0 (d : Fin 4) : (rd (F := F) m).amount (recvCell0 c) 0 d = N := amount_xfer m c _ d
theorem expect_recv0 : (rd (F := F) m).expect (recvCell0 c) 0 = N := expect_xfer m c _ (isXfer_recv0 c)
theorem duties_recv1 : (rd (F := F) m).duties (recvCell1 c) 0 = {0} := duties_xfer m c _ (isXfer_recv1 c)
theorem amount_recv1 (d : Fin 4) : (rd (F := F) m).amount (recvCell1 c) 0 d = N := amount_xfer m c _ d
theorem expect_recv1 : (rd (F := F) m).expect (recvCell1 c) 0 = N := expect_xfer m c _ (isXfer_recv1 c)
theorem duties_recv2 : (rd (F := F) m).duties (recvCell2 c) 0 = {0} := duties_xfer m c _ (isXfer_recv2 c)
theorem amount_recv2 (d : Fin 4) : (rd (F := F) m).amount (recvCell2 c) 0 d = N := amount_xfer m c _ d
theorem expect_recv2 : (rd (F := F) m).expect (recvCell2 c) 0 = N := expect_xfer m c _ (isXfer_recv2 c)

/-- No cell has a duty after round 0. -/
theorem duties_later (g : GSem nD τ sig) : ∀ r, 1 ≤ r → (rd (F := F) m).duties g r = ∅ :=
  fun r hr => by dsimp only [rd]; rw [if_neg fun h => by omega, if_neg fun h => by omega]

/-- What each unit hands over. -/
theorem payload_bar1 : (rd (F := F) m).payload (barCell c) 0 1 = barPay0 (nb 3 c) := by dsimp only [rd]; rw [if_pos rfl, if_pos rfl]
theorem payload_bar2 : (rd (F := F) m).payload (barCell c) 0 2 = barPay1 (nb 2 c) := by
  dsimp only [rd]; rw [if_pos rfl, if_neg (by decide), if_pos rfl]
theorem payload_bar3 : (rd (F := F) m).payload (barCell c) 0 3 = barPay2 (nb 1 c) := by
  dsimp only [rd]; rw [if_pos rfl, if_neg (by decide), if_neg (by decide), if_pos rfl]
theorem payload_recv0 : (rd (F := F) m).payload (recvCell0 c) 0 0 = recvPay0 m c (nb 1 c) := by
  dsimp only [rd]; rw [if_neg (by intro h; cases h), if_pos rfl]
theorem payload_recv1 : (rd (F := F) m).payload (recvCell1 c) 0 0 = recvPay1 m c (nb 2 c) := by
  dsimp only [rd]; rw [if_neg (by intro h; cases h), if_neg (by decide), if_pos rfl]
theorem payload_recv2 : (rd (F := F) m).payload (recvCell2 c) 0 0 = recvPay2 m c (nb 3 c) := by
  dsimp only [rd]; rw [if_neg (by intro h; cases h), if_neg (by decide), if_neg (by decide), if_pos rfl]
theorem payload_send1 : (rd (F := F) m).payload (sendCell1 c) 0 0 = sendPay1 m c := by
  dsimp only [rd]; rw [if_neg (by intro h; cases h), if_neg (by decide), if_neg (by decide), if_neg (by decide), if_pos rfl]
theorem payload_send2 : (rd (F := F) m).payload (sendCell2 c) 0 0 = sendPay2 m c := by
  dsimp only [rd]; rw [if_neg (by intro h; cases h), if_neg (by decide), if_neg (by decide), if_neg (by decide), if_neg (by decide), if_pos rfl]
theorem payload_send3 : (rd (F := F) m).payload (sendCell3 c) 0 0 = sendPay3 m c := by
  dsimp only [rd]; rw [if_neg (by intro h; cases h), if_neg (by decide), if_neg (by decide), if_neg (by decide), if_neg (by decide), if_neg (by decide), if_pos rfl]

end Tables

/-! ## What each device owes; the levels -/

/-- What device `c` owes once its first two copies are under way: the credit of the third. -/
abbrev O₁ (c : Dev nD) : CellTallies nD τ sig Unit := tallyAt (recvCell1 (nb 2 c)) () N
/-- After the first copy. -/
abbrev O₂ (c : Dev nD) : CellTallies nD τ sig Unit := tallyAt (recvCell1 (nb 2 c)) () N + tallyAt (recvCell0 (nb 3 c)) () N
/-- After the barrier. -/
abbrev O₃ (c : Dev nD) : CellTallies nD τ sig Unit := tallyAt (recvCell1 (nb 2 c)) () N + tallyAt (recvCell0 (nb 3 c)) () N + tallyAt (recvCell2 (nb 1 c)) () N
/-- At launch: a unit to each of the other barrier cells besides. -/
abbrev O₀ (c : Dev nD) : CellTallies nD τ sig Unit := tallyAt (recvCell1 (nb 2 c)) () N + tallyAt (recvCell0 (nb 3 c)) () N + tallyAt (recvCell2 (nb 1 c)) () N
  + tallyAt (barCell (nb 2 c)) () 1 + tallyAt (barCell (nb 3 c)) () 1 + tallyAt (barCell (nb 1 c)) () 1

/-- The receive semaphores. -/
abbrev IsRecvS (s : SemLoc sig) : Prop := s = .dma (recvS 0 inb_S3_S1_0).sem ∨ s = .dma (recvS 1 inb_S3_S1_1).sem ∨ s = .dma (recvS 2 inb_S3_S1_2).sem

/-- One level on every core, -/
def L (g : GSem nD τ sig) : Finset Unit := if g.1.2 = .tc then {()} else ∅
/-- Barrier cells at level 1, receive cells at 2, everything else (staging, local copies, sends) at 0. -/
def lv (g : GSem nD τ sig) (_ : Unit) : ℕ := if g.2 = .reg barS then 1 else if IsRecvS g.2 then 2 else 0

/-- What the levels are, cell by cell. -/
theorem L_of_ne (g : GSem nD τ sig) (h : g.1.2 ≠ .tc) : L g = ∅ := if_neg h
theorem L_tc (c : Dev nD) (sm : SemLoc sig) : L (Dev.tc c, sm) = {()} := if_pos rfl
theorem lv_bar (c : Dev nD) : lv (barCell c) () = 1 := if_pos rfl
theorem lv_recv (c : Dev nD) (q : DmaSem sig) (h : IsRecvS (.dma q)) : lv (Dev.tc c, .dma q) () = 2 := by
  dsimp only [lv]; rw [if_neg (by intro h; cases h), if_pos h]
theorem lv_other (c : Dev nD) (q : DmaSem sig) (h : ¬ IsRecvS (.dma q)) : lv (Dev.tc c, .dma q) () = 0 := by
  dsimp only [lv]; rw [if_neg (by intro h; cases h), if_neg h]

/-- Something owed on one cell is owed there only. -/
theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

/-- Something owed of a sum is owed of a part. -/
theorem add_pos' {A B : CellTallies nD τ sig Unit} {g : GSem nD τ sig} {u : Unit} (h : 0 < (A + B) g u) : 0 < A g u ∨ 0 < B g u := by
  rw [Pi.add_apply, Finsupp.add_apply] at h; omega

/-- Everything owed after the barrier is owed to receive cells. -/
theorem O₃_pos {c : Dev nD} {g : GSem nD τ sig} {u : Unit} (h : 0 < O₃ c g u) : L g = {()} ∧ lv g () = 2 := by
  rcases add_pos' h with h | h
  · rcases add_pos' h with h | h
    · rw [tally_pos h]; exact ⟨L_tc _ _, lv_recv _ _ (.inr (.inl rfl))⟩
    · rw [tally_pos h]; exact ⟨L_tc _ _, lv_recv _ _ (.inl rfl)⟩
  · rw [tally_pos h]; exact ⟨L_tc _ _, lv_recv _ _ (.inr (.inr rfl))⟩

/-- Everything owed at launch is owed to barrier and receive cells. -/
theorem O₀_pos {c : Dev nD} {g : GSem nD τ sig} {u : Unit} (h : 0 < O₀ c g u) : L g = {()} ∧ 1 ≤ lv g () := by
  rcases add_pos' h with h | h
  · rcases add_pos' h with h | h
    · rcases add_pos' h with h | h
      · have := O₃_pos h; exact ⟨this.1, by omega⟩
      · rw [tally_pos h]; exact ⟨L_tc _ _, le_of_eq (lv_bar _).symm⟩
    · rw [tally_pos h]; exact ⟨L_tc _ _, le_of_eq (lv_bar _).symm⟩
  · rw [tally_pos h]; exact ⟨L_tc _ _, le_of_eq (lv_bar _).symm⟩

omit [FloatOps F] in
/-- A device may wait on a semaphore that is no barrier and no receive semaphore while all it owes lies at level 1 or above. -/
theorem mayWait_low (c : Dev nD) (q : DmaSem sig) (hq : ¬ IsRecvS (.dma q)) (O : CellTallies nD τ sig Unit)
    (hO : ∀ g u, 0 < O g u → L g = {()} ∧ 1 ≤ lv g ()) : (levAts L lv : sProp 𝕄) ⊢ MayWait (Dev.tc c) (.dma q) () O :=
  MayOwe.of_cut (L := L) (lev := lv) 0 (fun p hp => by rw [Finset.mem_singleton.mp hp, L_tc]; exact Finset.mem_singleton_self _)
    (fun g u hg => by rw [(hO g u hg).1]; exact Finset.mem_singleton_self _)
    (fun p hp => by rw [Finset.mem_singleton.mp hp]; exact le_of_eq (lv_other c q hq))
    (fun g u hg => (hO g u hg).2)

omit [FloatOps F] in
/-- While waiting for the barrier a device owes receive cells only. -/
theorem mayWait_bar (c : Dev nD) : (levAts L lv : sProp 𝕄) ⊢ MayWait (Dev.tc c) (.reg barS) () (O₃ c) :=
  MayOwe.of_cut (L := L) (lev := lv) 1 (fun p hp => by rw [Finset.mem_singleton.mp hp, L_tc]; exact Finset.mem_singleton_self _)
    (fun g u hg => by rw [(O₃_pos hg).1]; exact Finset.mem_singleton_self _)
    (fun p hp => by rw [Finset.mem_singleton.mp hp]; exact le_of_eq (lv_bar c))
    (fun g u hg => by rw [(O₃_pos hg).2]; decide)

omit [FloatOps F] in
/-- A wait on anything but a receive cell is safe whatever is still owed to the receive cells. -/
theorem mayWait_O₃ (c : Dev nD) (q : DmaSem sig) (hq : ¬ IsRecvS (.dma q)) : (levAts L lv : sProp 𝕄) ⊢ MayWait (Dev.tc c) (.dma q) () (O₃ c) :=
  mayWait_low c q hq _ fun g u h => ⟨(O₃_pos h).1, by rw [(O₃_pos h).2]; decide⟩
omit [FloatOps F] in
theorem mayWait_O₂ (c : Dev nD) (q : DmaSem sig) (hq : ¬ IsRecvS (.dma q)) : (levAts L lv : sProp 𝕄) ⊢ MayWait (Dev.tc c) (.dma q) () (O₂ c) :=
  mayWait_low c q hq _ fun g u h => by
    have h' : 0 < O₃ c g u := by unfold O₃; rw [Pi.add_apply, Finsupp.add_apply]; exact Nat.lt_of_lt_of_le h (Nat.le_add_right _ _)
    exact ⟨(O₃_pos h').1, by rw [(O₃_pos h').2]; decide⟩
omit [FloatOps F] in
theorem mayWait_O₁ (c : Dev nD) (q : DmaSem sig) (hq : ¬ IsRecvS (.dma q)) : (levAts L lv : sProp 𝕄) ⊢ MayWait (Dev.tc c) (.dma q) () (O₁ c) :=
  mayWait_low c q hq _ fun g u h => by
    rw [tally_pos h]; exact ⟨L_tc _ _, by rw [lv_recv _ _ (.inr (.inl rfl))]; decide⟩
omit [FloatOps F] in
theorem mayWait_O₀ (c : Dev nD) (q : DmaSem sig) (hq : ¬ IsRecvS (.dma q)) : (levAts L lv : sProp 𝕄) ⊢ MayWait (Dev.tc c) (.dma q) () (O₀ c) :=
  mayWait_low c q hq _ fun g u h => O₀_pos h

end Cert.KernelIdealProof
-- ==== Proof.KernelIdeal.Slots.lean ====
/-
  What a slot of a scratch array reads after the steps that fill it.

  The kernel names a slot two ways: the copies write the slot's own matrix view, the loads and stores go through the
  whole array at the slot's rectangle. The lemmas here join the two.
-/
module

public import proofs.«01_k».proof.Proof.KernelIdeal.Sched
public import Idealize.ShloMosaic.Lib.Pipeline.Value
public import Idealize.ShloMosaic.Lib.Exec.Geometry
public import Idealize.ShloMosaic.Lib.ViewIndex

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A memref held at contents `f` is held at contents `g` when both read the same through it. -/
theorem respell {sp : Space} {s : Shape} {e : EltTy} (c : Thread nD τ) (M : Memref sig c.2.kind sp s e) (f g : Buf (Elt F) (M.view.loc c))
    (h : M.view.read (Elt F) f = M.view.read (Elt F) g) :
    (M.view.loc c ↦[M.view.set]{fullShare} f : sProp 𝕄) ⊢ (M.view.loc c ↦[M.view.set]{fullShare} g) := by
  refine .of_eq (pointsTo_congr ?_)
  intro i hi
  obtain ⟨x, -, e⟩ := Finset.mem_map.mp hi
  subst e
  exact View.eq_of_read_eq (congrFun h x)

/-- A view whose newest write is a whole copy of `d` reads `d`, whatever was there before. -/
theorem read_newest {κ : Kind} {sp : Space} {s : Shape} {e : EltTy} (v : View sig κ sp s e) (f : v.ty.Contents (Elt F)) (d : s.Idx → Elt F e) (ps) :
    v.read (Elt F) (v.writes (Elt F) f (⟨Rect.whole s, d⟩ :: ps)) = d := by
  funext y
  have h := View.read_writes_cons_emb v f (Rect.whole s) d ps y
  rwa [Rect.emb_whole_apply] at h

section
variable {S3 S3' : Shape} {e : EltTy} (M : Memref sig .tc .vmem S3 e) (M' : Memref sig .tc .vmem S3' e)
  (r : Rect S3) (hr : ∀ a, r.stride a = 1) (hq : r.shape.Squeezes S1024x1024) (hc : r.shape.ShapeCasts S1024x1024)
  (r' : Rect S3') (hr' : ∀ a, r'.stride a = 1) (hq' : r'.shape.Squeezes S1024x1024) (hc' : S1024x1024.ShapeCasts r'.shape)

/-- A slot that a copy filled with `d`, loaded through the whole array and read as a matrix, is `d`. -/
theorem load_landed (g : M.view.ty.Contents (Elt F)) (d : S1024x1024.Idx → Elt F e) (ps) :
    shapeCast S1024x1024 (M.view.readAt (Elt F) r.toLoadRect
      (((M.slice r hr).squeeze S1024x1024 hq).view.writes (Elt F) g (⟨Rect.whole S1024x1024, d⟩ :: ps))) hc = d := by
  rw [← Memref.read_squeeze_slice M r hr hq hc, read_newest]

/-- The same for a slot written whole at once. -/
theorem load_written (g : M.view.ty.Contents (Elt F)) (d : S1024x1024.Idx → Elt F e) :
    shapeCast S1024x1024 (M.view.readAt (Elt F) r.toLoadRect
      (((M.slice r hr).squeeze S1024x1024 hq).view.write (Elt F) g d Finset.univ)) hc = d := by
  rw [← Memref.read_squeeze_slice M r hr hq hc, View.read_write_univ]

/-- A matrix `u` stored in a slot through the whole array is what the slot's own view reads. -/
theorem read_stored (f : M'.view.ty.Contents (Elt F)) (u : S1024x1024.Idx → Elt F e) :
    ((M'.slice r' hr').squeeze S1024x1024 hq').view.read (Elt F)
      ((M'.access r').write (Elt F) f (shapeCast r'.shape u hc') Finset.univ) = u := by
  rw [Memref.read_squeeze_slice M' r' hr' hq' (by exact hc'.symm)]
  refine (congrArg (fun v => shapeCast S1024x1024 v _) (View.read_write_univ (v := M'.access r') f _)).trans ?_
  exact shapeCast_shapeCast _ _ _

/-- A block copied into a staging slot, loaded, and stored in a send slot: the send slot reads that block. -/
theorem read_staged (f : M'.view.ty.Contents (Elt F)) (g : M.view.ty.Contents (Elt F)) (d : S1024x1024.Idx → Elt F e) (ps) :
    ((M'.slice r' hr').squeeze S1024x1024 hq').view.read (Elt F)
      ((M'.access r').write (Elt F) f (shapeCast r'.shape (shapeCast S1024x1024 (M.view.readAt (Elt F) r.toLoadRect
        (((M.slice r hr).squeeze S1024x1024 hq).view.writes (Elt F) g (⟨Rect.whole S1024x1024, d⟩ :: ps))) hc) hc') Finset.univ) = d := by
  rw [load_landed, read_stored]

end

end Cert.KernelIdealProof
-- ==== Proof.KernelIdeal.Chunk.lean ====
/-
  What one column block of the result is.

  The result's columns are cut into eight blocks of 1024. Each is the sum of four products, one per device's part of the
  contraction, scaled: the own part first, then the parts of devices c-1, c-3, c-2, as they are awaited.
-/
module

public import proofs.«01_k».proof.Proof.KernelIdeal.Slots

@[expose] public section

noncomputable section

namespace Cert.KernelIdealProof

open Cert.KernelIdeal Cert.KernelIdeal.Gen

open Idealize.ShloMosaic
open Idealize.ShloMosaic.TcCoe

variable {F : FTy → Type} [FloatOps F]
variable (m : (ℓ : Loc nD τ sig) → Buf (Elt F) ℓ)

/-- The 1024 by 1024 block of device `c`'s `w` at offsets `off`. -/
def wblk (c : Dev nD) (off : Fin 2 → ℕ) (h : ∀ a, off a + S1024x1024.size a ≤ S4096x8192.size a) : Vec F S1024x1024 .fp8e5m2 :=
  (wM.slice (Rect.unit (s := S4096x8192) off S1024x1024.size h) (fun _ => rfl)).view.read (Elt F) (m (c.tc.loc main_arg1))

/-- The product of two blocks, accumulated in f32 from zero. -/
def mm (a : Vec F S1024x1024 .fp8e4m3) (b : Vec F S1024x1024 .fp8e5m2) : FVec F S1024x1024 .f32 :=
  matmul dot_S1024x1024_S1024x1024_S1024x1024_1_0_0_1_n_n none a b (constant S1024x1024 .f32 0x00000000#32)

/-- Four products summed from the left, scaled. -/
def outBlk (sc : F .f32) (a0 a1 a2 a3 : Vec F S1024x1024 .fp8e4m3) (b0 b1 b2 b3 : Vec F S1024x1024 .fp8e5m2) : FVec F S1024x1024 .f32 :=
  mulf (addf (addf (addf (mm a0 b0) (mm a1 b1)) (mm a2 b2)) (mm a3 b3)) (broadcast S1024x1024 sc)

/-- The scale: the product of the two scale words. -/
def scaleOf (c : Dev nD) (s0 : Buf (Elt F) ((Dev.tc c : Thread nD τ).loc cc0_stg0_0)) (s1 : Buf (Elt F) ((Dev.tc c : Thread nD τ).loc cc0_stg1_0)) : F .f32 :=
  Scalar.mulf
    ((Memref.whole cc0_stg0_0).view.readAt (Elt F) (Rect.unit (s := S1) ![0] S1.size inb_S1_S1_0).toLoadRect s0 (Shape.Idx.first (by decide)))
    ((Memref.whole cc0_stg1_0).view.readAt (Elt F) (Rect.unit (s := S1) ![0] S1.size inb_S1_S1_0).toLoadRect s1 (Shape.Idx.first (by decide)))

/-- The column block of device `c`'s result whose four blocks of `w` are `b0 … b3`. -/
def outOf (c : Dev nD) (s0 : Buf (Elt F) ((Dev.tc c : Thread nD τ).loc cc0_stg0_0)) (s1 : Buf (Elt F) ((Dev.tc c : Thread nD τ).loc cc0_stg1_0))
    (b0 b1 b2 b3 : Vec F S1024x1024 .fp8e5m2) : FVec F S1024x1024 .f32 :=
  outBlk (scaleOf c s0 s1) (xblk m c 0#32 (k0_off3_inb c 0)) (xblk m (nb 3 c) 1#32 (k0_off3_inb (nb 3 c) 1))
    (xblk m (nb 1 c) 3#32 (k0_off3_inb (nb 1 c) 3)) (xblk m (nb 2 c) 2#32 (k0_off3_inb (nb 2 c) 2)) b0 b1 b2 b3

/-- The column block whose blocks of `w` lie at the offsets `off c d`, for the device distances `d` of 0, 1, 3, 2. -/
def colOf (off : Dev nD → BitVec 32 → Fin 2 → ℕ) (h : ∀ d0 : Dev nD, ∀ r : Fin 4, ∀ a, (off d0 (BitVec.ofNat 32 r.val)) a + S1024x1024.size a ≤ S4096x8192.size a)
    (c : Dev nD) (s0 : Buf (Elt F) ((Dev.tc c : Thread nD τ).loc cc0_stg0_0)) (s1 : Buf (Elt F) ((Dev.tc c : Thread nD τ).loc cc0_stg1_0)) : FVec F S1024x1024 .f32 :=
  outOf m c s0 s1 (wblk m c (off c 0#32) (h c 0)) (wblk m c (off c 1#32) (h c 1)) (wblk m c (off c 3#32) (h c 3)) (wblk m c (off c 2#32) (h c 2))

/-- A column block as the program writes it: every product and sum is cast to its own shape on the way. -/
theorem outBlk_run (sc : F .f32) (A0 A1 A2 A3 : Vec F S1x1024x1024 .fp8e4m3) (B0 B1 B2 B3 : Vec F S1x1024x1024 .fp8e5m2)
    {a0 a1 a2 a3 : Vec F S1024x1024 .fp8e4m3} {b0 b1 b2 b3 : Vec F S1024x1024 .fp8e5m2}
    (hA0 : shapeCast S1024x1024 A0 shapeCasts_S1x1024x1024_S1024x1024 = a0) (hA1 : shapeCast S1024x1024 A1 shapeCasts_S1x1024x1024_S1024x1024 = a1)
    (hA2 : shapeCast S1024x1024 A2 shapeCasts_S1x1024x1024_S1024x1024 = a2) (hA3 : shapeCast S1024x1024 A3 shapeCasts_S1x1024x1024_S1024x1024 = a3)
    (hB0 : shapeCast S1024x1024 B0 shapeCasts_S1x1024x1024_S1024x1024 = b0) (hB1 : shapeCast S1024x1024 B1 shapeCasts_S1x1024x1024_S1024x1024 = b1)
    (hB2 : shapeCast S1024x1024 B2 shapeCasts_S1x1024x1024_S1024x1024 = b2) (hB3 : shapeCast S1024x1024 B3 shapeCasts_S1x1024x1024_S1024x1024 = b3) :
    k0_pay50 sc (k0_pay39 A3) B3 (k0_pay38 (k0_pay28 A2) B2 (k0_pay27 (k0_pay16 A1) B1 (k0_pay8 (k0_pay7 A0) B0))) = outBlk sc a0 a1 a2 a3 b0 b1 b2 b3 := by
  subst hA0 hA1 hA2 hA3 hB0 hB1 hB2 hB3
  simp only [k0_pay50, k0_pay39, k0_pay38, k0_pay28, k0_pay27, k0_pay16, k0_pay8, k0_pay7, shapeCast_self]
  rfl

/-- The own block: staged, stored in slot 3, loaded again. -/
theorem load_own (g : xsM.view.ty.Contents (Elt F)) (d : S1024x1024.Idx → Elt F .fp8e4m3) (ps) :
    shapeCast S1024x1024 (k0_pay5 (xsM.view.readAt (Elt F) (Rect.unit (s := S2x1024x1024) ![1, 0, 0] S1x1024x1024.size inb_S2x1024x1024_S1x1024x1024_1_0_0).toLoadRect
      ((xsSl 1 inb_S2x1024x1024_S1x1024x1024_1_0_0).view.writes (Elt F) g (⟨Rect.whole S1024x1024, d⟩ :: ps)))) shapeCasts_S1x1024x1024_S1024x1024 = d := by
  unfold k0_pay5
  exact (shapeCast_shapeCast _ _ _).trans (load_landed xsM _ _ _ _ g d ps)

/-- The three landing slots loaded after their block arrived. -/
theorem load_cm (k : ℕ) (hk : ∀ a, (![k, 0, 0] : Fin 3 → ℕ) a + S1x1024x1024.size a ≤ S3x1024x1024.size a) (g : cmM.view.ty.Contents (Elt F))
    {d d' : S1024x1024.Idx → Elt F .fp8e4m3} (e : d = d') :
    shapeCast S1024x1024 (cmM.view.readAt (Elt F) (Rect.unit (s := S3x1024x1024) ![k, 0, 0] S1x1024x1024.size hk).toLoadRect
      ((cmSl k hk).view.write (Elt F) g d Finset.univ)) shapeCasts_S1x1024x1024_S1024x1024 = d' :=
  (load_written cmM (Rect.unit (s := S3x1024x1024) ![k, 0, 0] S1x1024x1024.size hk) (fun _ => rfl) squeezes_S1x1024x1024_S1024x1024 _ g d).trans e

/-- A slot of `w` loaded after a copy filled it. -/
theorem load_wb (k : ℕ) (hk : ∀ a, (![k, 0, 0] : Fin 3 → ℕ) a + S1x1024x1024.size a ≤ S3x1024x1024.size a) (g : wbM.view.ty.Contents (Elt F))
    (d : S1024x1024.Idx → Elt F .fp8e5m2) (ps) :
    shapeCast S1024x1024 (wbM.view.readAt (Elt F) (Rect.unit (s := S3x1024x1024) ![k, 0, 0] S1x1024x1024.size hk).toLoadRect
      ((wbSl k hk).view.writes (Elt F) g (⟨Rect.whole S1024x1024, d⟩ :: ps))) shapeCasts_S1x1024x1024_S1024x1024 = d :=
  load_landed wbM (Rect.unit (s := S3x1024x1024) ![k, 0, 0] S1x1024x1024.size hk) (fun _ => rfl) squeezes_S1x1024x1024_S1024x1024 _ g d ps

/-- A column block from what the program loads: the own block, the three landed ones and four of `w`. -/
theorem outOf_run (c : Dev nD) (s0 : Buf (Elt F) ((Dev.tc c : Thread nD τ).loc cc0_stg0_0)) (s1 : Buf (Elt F) ((Dev.tc c : Thread nD τ).loc cc0_stg1_0))
    (g : xsM.view.ty.Contents (Elt F)) (ps) (l2 l0 l1 : cmM.view.ty.Contents (Elt F)) (B0 B1 B2 B3 : Vec F S1x1024x1024 .fp8e5m2)
    {b0 b1 b2 b3 : Vec F S1024x1024 .fp8e5m2}
    (hB0 : shapeCast S1024x1024 B0 shapeCasts_S1x1024x1024_S1024x1024 = b0) (hB1 : shapeCast S1024x1024 B1 shapeCasts_S1x1024x1024_S1024x1024 = b1)
    (hB2 : shapeCast S1024x1024 B2 shapeCasts_S1x1024x1024_S1024x1024 = b2) (hB3 : shapeCast S1024x1024 B3 shapeCasts_S1x1024x1024_S1024x1024 = b3) :
    k0_pay50 (scaleOf c s0 s1)
      (k0_pay39 (cmM.view.readAt (Elt F) (Rect.unit (s := S3x1024x1024) ![1, 0, 0] S1x1024x1024.size inb_S3x1024x1024_S1x1024x1024_1_0_0).toLoadRect
        (cm1.view.write (Elt F) l1 (x82.view.read (Elt F) (x8C2 m (nb 2 c))) Finset.univ))) B3
      (k0_pay38 (k0_pay28 (cmM.view.readAt (Elt F) (Rect.unit (s := S3x1024x1024) ![0, 0, 0] S1x1024x1024.size inb_S3x1024x1024_S1x1024x1024_0_0_0).toLoadRect
        (cm0.view.write (Elt F) l0 (x81.view.read (Elt F) (x8C1 m (nb 1 c))) Finset.univ))) B2
      (k0_pay27 (k0_pay16 (cmM.view.readAt (Elt F) (Rect.unit (s := S3x1024x1024) ![2, 0, 0] S1x1024x1024.size inb_S3x1024x1024_S1x1024x1024_2_0_0).toLoadRect
        (cm2.view.write (Elt F) l2 (x80.view.read (Elt F) (x8C0 m (nb 3 c))) Finset.univ))) B1
      (k0_pay8 (k0_pay7 (k0_pay5 (xsM.view.readAt (Elt F) (Rect.unit (s := S2x1024x1024) ![1, 0, 0] S1x1024x1024.size inb_S2x1024x1024_S1x1024x1024_1_0_0).toLoadRect
        ((xsSl 1 inb_S2x1024x1024_S1x1024x1024_1_0_0).view.writes (Elt F) g (⟨Rect.whole S1024x1024, xblk m c 0#32 (k0_off3_inb c 0)⟩ :: ps))))) B0)))
      = outOf m c s0 s1 b0 b1 b2 b3 :=
  outBlk_run (scaleOf c s0 s1) _ _ _ _ B0 B1 B2 B3 (load_own _ _ _) (load_cm _ _ _ (View.read_write_univ _ _)) (load_cm _ _ _ (View.read_write_univ _ _))
    (load_cm _ _ _ (View.read_write_univ _ _)) hB0 hB1 hB2 hB3

end Cert.KernelIdealProof
-- ==== Proof.KernelIdeal.State.lean ====
/-
# What a device holds

The pieces of the state that the body of device `c` starts from and ends with: its share of the protocol, the slots and
column blocks of its buffers, its tokens on the inputs, and the result.
-/
module

public import proofs.«01_k».proof.Proof.KernelIdeal.Chunk

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body has no loop whose end needs a measure. -/
abbrev 𝒱₀ : Variants := Variants.none

/-- The names of the protocol's cells' invariants. -/
abbrev Names : Type := Dev nD → Fin 7 → ℕ

/-- The invariants that device `c` uses: its own cells, the barriers that it signals and the receive cells that it copies to. -/
def invs (K : Names) (c : Dev nD) : sProp 𝕄 :=
  iprop(cellInv ER (rd m) (K c 0) (barCell c)
    ∗ cellInv ER (rd m) (K (nb 1 c) 0) (barCell (nb 1 c)) ∗ cellInv ER (rd m) (K (nb 3 c) 0) (barCell (nb 3 c)) ∗ cellInv ER (rd m) (K (nb 2 c) 0) (barCell (nb 2 c))
    ∗ cellInv ER (rd m) (K c 1) (sendCell1 c) ∗ cellInv ER (rd m) (K c 2) (sendCell2 c) ∗ cellInv ER (rd m) (K c 3) (sendCell3 c)
    ∗ cellInv ER (rd m) (K c 4) (recvCell0 c) ∗ cellInv ER (rd m) (K c 5) (recvCell1 c) ∗ cellInv ER (rd m) (K c 6) (recvCell2 c)
    ∗ cellInv ER (rd m) (K (nb 3 c) 4) (recvCell0 (nb 3 c)) ∗ cellInv ER (rd m) (K (nb 2 c) 5) (recvCell1 (nb 2 c)) ∗ cellInv ER (rd m) (K (nb 1 c) 6) (recvCell2 (nb 1 c)))

/-- Invariants may be used again and again. -/
instance invs_persistent (K : Names) (c : Dev nD) : BI.Persistent (invs m K c) := by unfold invs; infer_instance

/-- These cells are at their first round, -/
def marks (c : Dev nD) : sProp 𝕄 :=
  iprop(reached ER (barCell (nb 1 c)) 0 ∗ reached ER (barCell (nb 3 c)) 0 ∗ reached ER (barCell (nb 2 c)) 0
    ∗ reached ER (sendCell1 c) 0 ∗ reached ER (sendCell2 c) 0 ∗ reached ER (sendCell3 c) 0
    ∗ reached ER (recvCell0 c) 0 ∗ reached ER (recvCell1 c) 0 ∗ reached ER (recvCell2 c) 0)

/-- which stays known. -/
instance marks_persistent (c : Dev nD) : BI.Persistent (marks (F := F) c) := by unfold marks; infer_instance

/-- The places of device `c` at its own cells: before the first round. -/
def positions (c : Dev nD) : sProp 𝕄 :=
  iprop(atPos ER (barCell c) 0 ∅ 0 ∗ atPos ER (sendCell1 c) 0 ∅ 0 ∗ atPos ER (sendCell2 c) 0 ∅ 0 ∗ atPos ER (sendCell3 c) 0 ∅ 0
    ∗ atPos ER (recvCell0 c) 0 ∅ 0 ∗ atPos ER (recvCell1 c) 0 ∅ 0 ∗ atPos ER (recvCell2 c) 0 ∅ 0)

/-- The duties that device `c` pays: three barrier units, three sends, three landings. -/
def toks (c : Dev nD) : sProp 𝕄 :=
  iprop(dutyTok ER (barCell (nb 1 c)) 0 1 ∗ dutyTok ER (barCell (nb 3 c)) 0 3 ∗ dutyTok ER (barCell (nb 2 c)) 0 2
    ∗ dutyTok ER (sendCell1 c) 0 0 ∗ dutyTok ER (sendCell2 c) 0 0 ∗ dutyTok ER (sendCell3 c) 0 0
    ∗ dutyTok ER (recvCell0 (nb 3 c)) 0 0 ∗ dutyTok ER (recvCell1 (nb 2 c)) 0 0 ∗ dutyTok ER (recvCell2 (nb 1 c)) 0 0)

/-- What the other devices owe device `c`. -/
def creds (c : Dev nD) : sProp 𝕄 :=
  iprop(cred (tallyAt (barCell c) () 3) ∗ cred (tallyAt (recvCell0 c) () N) ∗ cred (tallyAt (recvCell1 c) () N) ∗ cred (tallyAt (recvCell2 c) () N))

/-- The counters of the local copies, at zero. -/
def sems (c : Dev nD) : sProp 𝕄 :=
  iprop(semVal ((Dev.tc c, .dma (xsS 0 inb_S2_S1_0).sem) : GSem nD τ sig) 0 ∗ semVal ((Dev.tc c, .dma (xsS 1 inb_S2_S1_1).sem) : GSem nD τ sig) 0
    ∗ semVal ((Dev.tc c, .dma (wS 0 inb_S3_S1_0).sem) : GSem nD τ sig) 0 ∗ semVal ((Dev.tc c, .dma (wS 1 inb_S3_S1_1).sem) : GSem nD τ sig) 0 ∗ semVal ((Dev.tc c, .dma (wS 2 inb_S3_S1_2).sem) : GSem nD τ sig) 0
    ∗ semVal ((Dev.tc c, .dma (outS 0 inb_S8_S1_0).sem) : GSem nD τ sig) 0 ∗ semVal ((Dev.tc c, .dma (outS 1 inb_S8_S1_1).sem) : GSem nD τ sig) 0
    ∗ semVal ((Dev.tc c, .dma (outS 2 inb_S8_S1_2).sem) : GSem nD τ sig) 0 ∗ semVal ((Dev.tc c, .dma (outS 3 inb_S8_S1_3).sem) : GSem nD τ sig) 0
    ∗ semVal ((Dev.tc c, .dma (outS 4 inb_S8_S1_4).sem) : GSem nD τ sig) 0 ∗ semVal ((Dev.tc c, .dma (outS 5 inb_S8_S1_5).sem) : GSem nD τ sig) 0
    ∗ semVal ((Dev.tc c, .dma (outS 6 inb_S8_S1_6).sem) : GSem nD τ sig) 0 ∗ semVal ((Dev.tc c, .dma (outS 7 inb_S8_S1_7).sem) : GSem nD τ sig) 0)

/-- The two slots that `x` is staged through and the three of `w`. -/
abbrev xsm0 : Memref sig .tc .vmem S1024x1024 .fp8e4m3 := xsSl 0 inb_S2x1024x1024_S1x1024x1024_0_0_0
abbrev xsm1 : Memref sig .tc .vmem S1024x1024 .fp8e4m3 := xsSl 1 inb_S2x1024x1024_S1x1024x1024_1_0_0
abbrev wb0 : Memref sig .tc .vmem S1024x1024 .fp8e5m2 := wbSl 0 inb_S3x1024x1024_S1x1024x1024_0_0_0
abbrev wb1 : Memref sig .tc .vmem S1024x1024 .fp8e5m2 := wbSl 1 inb_S3x1024x1024_S1x1024x1024_1_0_0
abbrev wb2 : Memref sig .tc .vmem S1024x1024 .fp8e5m2 := wbSl 2 inb_S3x1024x1024_S1x1024x1024_2_0_0

/-- A memref of device `c` held whole at some contents. -/
abbrev some' {sp : Space} {s : Shape} {e : EltTy} (c : Dev nD) (M : Memref sig .tc sp s e) : sProp 𝕄 :=
  iprop(∃ f : Buf (Elt F) (M.view.loc (Dev.tc c : Thread nD τ)), M.view.loc (Dev.tc c : Thread nD τ) ↦[M.view.set]{fullShare} f)

/-- All slots of the scratch arrays, at some contents. -/
def slots (c : Dev nD) : sProp 𝕄 :=
  iprop(some' c xsm0 ∗ some' c xsm1 ∗ some' c x80 ∗ some' c x81 ∗ some' c x82 ∗ some' c x83 ∗ some' c cm0 ∗ some' c cm2 ∗ some' c cm1
    ∗ some' c wb0 ∗ some' c wb1 ∗ some' c wb2)

/-- The eight column blocks of the accumulator, at some contents. -/
def cols (c : Dev nD) : sProp 𝕄 :=
  iprop(some' c (acSl 0 inb_S1024x8192_S1024x1024_0_0) ∗ some' c (acSl 1024 inb_S1024x8192_S1024x1024_0_1024) ∗ some' c (acSl 2048 inb_S1024x8192_S1024x1024_0_2048)
    ∗ some' c (acSl 3072 inb_S1024x8192_S1024x1024_0_3072) ∗ some' c (acSl 4096 inb_S1024x8192_S1024x1024_0_4096) ∗ some' c (acSl 5120 inb_S1024x8192_S1024x1024_0_5120)
    ∗ some' c (acSl 6144 inb_S1024x8192_S1024x1024_0_6144) ∗ some' c (acSl 7168 inb_S1024x8192_S1024x1024_0_7168))

/-- The eight column blocks of the result, at some contents. -/
def outs (c : Dev nD) : sProp 𝕄 :=
  iprop(some' c (oSl 0 inb_S1024x8192_S1024x1024_0_0) ∗ some' c (oSl 1024 inb_S1024x8192_S1024x1024_0_1024) ∗ some' c (oSl 2048 inb_S1024x8192_S1024x1024_0_2048)
    ∗ some' c (oSl 3072 inb_S1024x8192_S1024x1024_0_3072) ∗ some' c (oSl 4096 inb_S1024x8192_S1024x1024_0_4096) ∗ some' c (oSl 5120 inb_S1024x8192_S1024x1024_0_5120)
    ∗ some' c (oSl 6144 inb_S1024x8192_S1024x1024_0_6144) ∗ some' c (oSl 7168 inb_S1024x8192_S1024x1024_0_7168))

/-- The two inputs in HBM, as read tokens: one per local semaphore that reads them. -/
def ins (c : Dev nD) : sProp 𝕄 :=
  iprop((xM.view.loc (Dev.tc c : Thread nD τ) ↦{Transfers.shareTokN fullShare 2} m ((Dev.tc c : Thread nD τ).loc main_arg0))
    ∗ (xM.view.loc (Dev.tc c : Thread nD τ) ↦{Transfers.shareTokN fullShare 3} m ((Dev.tc c : Thread nD τ).loc main_arg0))
    ∗ (wM.view.loc (Dev.tc c : Thread nD τ) ↦{Transfers.shareTokN fullShare 11} m ((Dev.tc c : Thread nD τ).loc main_arg1))
    ∗ (wM.view.loc (Dev.tc c : Thread nD τ) ↦{Transfers.shareTokN fullShare 12} m ((Dev.tc c : Thread nD τ).loc main_arg1))
    ∗ (wM.view.loc (Dev.tc c : Thread nD τ) ↦{Transfers.shareTokN fullShare 13} m ((Dev.tc c : Thread nD τ).loc main_arg1)))

/-- The two staged scales. -/
def scales (c : Dev nD) (s0 : Buf (Elt F) ((Dev.tc c : Thread nD τ).loc cc0_stg0_0)) (s1 : Buf (Elt F) ((Dev.tc c : Thread nD τ).loc cc0_stg1_0)) : sProp 𝕄 :=
  iprop(((Memref.whole cc0_stg0_0).view.loc (Dev.tc c : Thread nD τ) ↦{fullShare} s0) ∗ ((Memref.whole cc0_stg1_0).view.loc (Dev.tc c : Thread nD τ) ↦{fullShare} s1))

/-- The 1024 columns of the result from column `o`, reading the column block at the offsets `off`. -/
def resAt (c : Dev nD) (s0 : Buf (Elt F) ((Dev.tc c : Thread nD τ).loc cc0_stg0_0)) (s1 : Buf (Elt F) ((Dev.tc c : Thread nD τ).loc cc0_stg1_0))
    (o : ℕ) (ho : ∀ a, (![0, o] : Fin 2 → ℕ) a + S1024x1024.size a ≤ S1024x8192.size a)
    (off : Dev nD → BitVec 32 → Fin 2 → ℕ) (h : ∀ d0 : Dev nD, ∀ r : Fin 4, ∀ a, (off d0 (BitVec.ofNat 32 r.val)) a + S1024x1024.size a ≤ S4096x8192.size a) : sProp 𝕄 :=
  iprop(∃ f : Buf (Elt F) ((oSl o ho).view.loc (Dev.tc c : Thread nD τ)), ⌜(oSl o ho).view.read (Elt F) f = colOf m off h c s0 s1⌝
    ∗ ((oSl o ho).view.loc (Dev.tc c : Thread nD τ) ↦[(oSl o ho).view.set]{fullShare} f))

/-- The result, one column block after the other. -/
def res (c : Dev nD) (s0 : Buf (Elt F) ((Dev.tc c : Thread nD τ).loc cc0_stg0_0)) (s1 : Buf (Elt F) ((Dev.tc c : Thread nD τ).loc cc0_stg1_0)) : sProp 𝕄 :=
  iprop(resAt m c s0 s1 0 inb_S1024x8192_S1024x1024_0_0 k0_off1 k0_off1_inb ∗ resAt m c s0 s1 1024 inb_S1024x8192_S1024x1024_0_1024 k0_off2 k0_off2_inb
    ∗ resAt m c s0 s1 2048 inb_S1024x8192_S1024x1024_0_2048 k0_off4 k0_off4_inb ∗ resAt m c s0 s1 3072 inb_S1024x8192_S1024x1024_0_3072 k0_off5 k0_off5_inb
    ∗ resAt m c s0 s1 4096 inb_S1024x8192_S1024x1024_0_4096 k0_off6 k0_off6_inb ∗ resAt m c s0 s1 5120 inb_S1024x8192_S1024x1024_0_5120 k0_off7 k0_off7_inb
    ∗ resAt m c s0 s1 6144 inb_S1024x8192_S1024x1024_0_6144 k0_off8 k0_off8_inb ∗ resAt m c s0 s1 7168 inb_S1024x8192_S1024x1024_0_7168 k0_off9 k0_off9_inb)

/-- The seven cells of device `c`, closed: their counters at zero. -/
def closedCells (c : Dev nD) : sProp 𝕄 :=
  iprop(semVal (barCell c) 0 ∗ semVal (sendCell1 c) 0 ∗ semVal (sendCell2 c) 0 ∗ semVal (sendCell3 c) 0
    ∗ semVal (recvCell0 c) 0 ∗ semVal (recvCell1 c) 0 ∗ semVal (recvCell2 c) 0)

/-- A column block of the result after its copy reads the block copied. -/
theorem resAt_intro (c : Dev nD) (s0 : Buf (Elt F) ((Dev.tc c : Thread nD τ).loc cc0_stg0_0)) (s1 : Buf (Elt F) ((Dev.tc c : Thread nD τ).loc cc0_stg1_0))
    (o : ℕ) (ho : ∀ a, (![0, o] : Fin 2 → ℕ) a + S1024x1024.size a ≤ S1024x8192.size a)
    (off : Dev nD → BitVec 32 → Fin 2 → ℕ) (h : ∀ d0 : Dev nD, ∀ r : Fin 4, ∀ a, (off d0 (BitVec.ofNat 32 r.val)) a + S1024x1024.size a ≤ S4096x8192.size a)
    (f : (oSl o ho).view.ty.Contents (Elt F)) (d : S1024x1024.Idx → Elt F .f32) (e : d = colOf m off h c s0 s1) :
    ((oSl o ho).view.loc (Dev.tc c : Thread nD τ) ↦[(oSl o ho).view.set]{fullShare} ((oSl o ho).view.writes (Elt F) f [⟨Rect.whole S1024x1024, d⟩]) : sProp 𝕄)
      ⊢ resAt m c s0 s1 o ho off h := by
  unfold resAt
  iintro H
  iexists _
  isplitr
  · ipureintro; exact (read_newest (oSl o ho).view f d []).trans e
  iexact H

/-- A column block copied from the accumulator reads what was last stored there. -/
theorem ac_read (o : ℕ) (ho : ∀ a, (![0, o] : Fin 2 → ℕ) a + S1024x1024.size a ≤ S1024x8192.size a) (f : acM.view.ty.Contents (Elt F)) {u v : S1024x1024.Idx → Elt F .f32}
    (e : u = v) : (acSl o ho).view.read (Elt F) ((acM.access (Rect.unit (s := S1024x8192) ![0, o] S1024x1024.size ho)).write (Elt F) f u Finset.univ) = v :=
  (View.read_write_univ (v := acM.access (Rect.unit (s := S1024x8192) ![0, o] S1024x1024.size ho)) f u).trans e

/-- A cell past its only round closes: its counter at zero is the core's again. -/
theorem shut (κ : ℕ) (g : GSem nD τ sig) : iprop(cellInv ER (rd m) κ g ∗ atPos ER g 1 ∅ 0) ⊢ iprop(|={Set.univ}=> semVal g 0) :=
  Rounds.cell_close ER (rd m) (Set.mem_univ κ) (fun h => h) (duties_later m g)

/-- Three pieces, as the proof mode writes them. -/
theorem sep_three (P Q R : sProp 𝕄) : Idealize.SL.BI.sep P (Idealize.SL.BI.sep Q R) ⊢ iprop(P ∗ Q ∗ R) := BIBase.Entails.rfl

end Cert.KernelIdealProof
-- ==== Proof.KernelIdeal.Arrays.lean ====
/-
# Buffers and their pieces

The launch hands over each buffer whole; the body works on slots (1024 by 1024 blocks along the leading axis) and on
column blocks. Here the whole buffers are cut into these pieces and put together again; the result's eight column blocks
join to one array that reads, column block by column block, what the body computed.
-/
module

public import proofs.«01_k».proof.Proof.KernelIdeal.State
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cutting and joining in general -/

section General

variable {ℓ : Loc nD τ sig} {n : ℕ} (I : Fin n → Finset (Idx ℓ))
  (hd : ∀ b b', b ≠ b' → Disjoint (I b) (I b')) (hc : Finset.univ.biUnion I = Finset.univ)

include hd hc in
/-- A buffer at some contents is its pieces, each at some contents; -/
theorem cut : (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H2 := (Entails.of_eq (Ring.pointsTo_blocks (Ix := Unit) (Name := ℕ) (U := UU) (Lvl := ℕ) (q := fullShare) I hd hc f)) $$ H
  iapply (show (bigSep Finset.univ fun b => (ℓ ↦[I b]{fullShare} f : sProp 𝕄)) ⊢ bigSep Finset.univ fun b => iprop(∃ f : Buf (Elt F) ℓ, ℓ ↦[I b]{fullShare} f) from
    bigSep_mono fun b _ => by
      show (ℓ ↦[I b]{fullShare} f : sProp 𝕄) ⊢ iprop(∃ f : Buf (Elt F) ℓ, ℓ ↦[I b]{fullShare} f)
      iintro H; iexists f; iexact H)
  iexact H2

include hd hc in
/-- and pieces whose contents each satisfy a predicate that only looks at the piece join to contents satisfying them all. -/
theorem join_sat (P : Fin n → Buf (Elt F) ℓ → Prop) (hP : ∀ k (f g : Buf (Elt F) ℓ), (∀ i ∈ I k, g i = f i) → P k f → P k g) (f₀ : Buf (Elt F) ℓ) :
    (bigSep Finset.univ (fun b => iprop(∃ f : Buf (Elt F) ℓ, ⌜P b f⌝ ∗ ℓ ↦[I b]{fullShare} f)) : sProp 𝕄) ⊢ iprop(∃ g : Buf (Elt F) ℓ, ⌜∀ b, P b g⌝ ∗ ℓ ↦{fullShare} g) := by
  have : Nonempty (Buf (Elt F) ℓ) := ⟨f₀⟩
  refine (Idealize.SL.BI.bigSep_exists_pi Finset.univ (fun b (f : Buf (Elt F) ℓ) => (iprop(⌜P b f⌝ ∗ ℓ ↦[I b]{fullShare} f) : sProp 𝕄))).trans ?_
  iintro ⟨%fs, H⟩
  ihave H := (bigSep_pure_sep Finset.univ (fun b => P b (fs b)) (fun b => (ℓ ↦[I b]{fullShare} fs b : sProp 𝕄))) $$ H
  icases H with ⟨%hp, H⟩
  ihave H := (pointsTo_biUnion_join Finset.univ I fs f₀ (fun b _ b' _ h => hd b b' h)) $$ H
  rw [hc]
  icases H with ⟨%g, %hg, H⟩
  iexists g
  isplitr
  · ipureintro; exact fun b => hP b (fs b) g (hg b (Finset.mem_univ b)) (hp b (Finset.mem_univ b))
  iexact H

end General

/-! ## Slots and columns -/

omit [FloatOps F] in
/-- A separating conjunction over two, three, four and eight pieces, written out. -/
theorem bigSep_fin2 (Φ : Fin 2 → sProp 𝕄) : bigSep Finset.univ Φ = iprop(Φ 0 ∗ Φ 1) := bigSep_univ_eq_bigSepL [0, 1] (by decide) (by decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Slot and column block `k` lie inside their arrays. -/
theorem inb2 (k : Fin 2) : ∀ a, (![k.val, 0, 0] : Fin 3 → ℕ) a + S1x1024x1024.size a ≤ S2x1024x1024.size a := by revert k; decide
theorem inb3 (k : Fin 3) : ∀ a, (![k.val, 0, 0] : Fin 3 → ℕ) a + S1x1024x1024.size a ≤ S3x1024x1024.size a := by revert k; decide
theorem inb4 (k : Fin 4) : ∀ a, (![k.val, 0, 0] : Fin 3 → ℕ) a + S1x1024x1024.size a ≤ S4x1024x1024.size a := by revert k; decide
theorem inb8 (k : Fin 8) : ∀ a, (![0, 1024 * k.val] : Fin 2 → ℕ) a + S1024x1024.size a ≤ S1024x8192.size a := by revert k; decide

/-- The elements of slot `k` of a buffer of two, of three, of four slots; of column block `k`. -/
abbrev sl2 (k : Fin 2) : Finset S2x1024x1024.Idx := (Rect.unit (s := S2x1024x1024) ![k.val, 0, 0] S1x1024x1024.size (inb2 k)).set
abbrev sl3 (k : Fin 3) : Finset S3x1024x1024.Idx := (Rect.unit (s := S3x1024x1024) ![k.val, 0, 0] S1x1024x1024.size (inb3 k)).set
abbrev sl4 (k : Fin 4) : Finset S4x1024x1024.Idx := (Rect.unit (s := S4x1024x1024) ![k.val, 0, 0] S1x1024x1024.size (inb4 k)).set
abbrev cl8 (k : Fin 8) : Finset S1024x8192.Idx := (Rect.unit (s := S1024x8192) ![0, 1024 * k.val] S1024x1024.size (inb8 k)).set

/-- The slots of an array, and the column blocks of the result, are disjoint and cover it. -/
theorem sl2_disjoint : ∀ b b', b ≠ b' → Disjoint (sl2 b) (sl2 b') :=
  Ring.lead_disjoint (s := S2x1024x1024) 0 1 (fun k => ![k.val, 0, 0]) S1x1024x1024.size inb2 (fun b => (Nat.one_mul _).symm) rfl
theorem sl2_cover : Finset.univ.biUnion sl2 = Finset.univ :=
  Ring.lead_cover (s := S2x1024x1024) 0 1 (fun k => ![k.val, 0, 0]) S1x1024x1024.size inb2 (fun b => (Nat.one_mul _).symm) (by decide) rfl (by decide) rfl
theorem sl3_disjoint : ∀ b b', b ≠ b' → Disjoint (sl3 b) (sl3 b') :=
  Ring.lead_disjoint (s := S3x1024x1024) 0 1 (fun k => ![k.val, 0, 0]) S1x1024x1024.size inb3 (fun b => (Nat.one_mul _).symm) rfl
theorem sl3_cover : Finset.univ.biUnion sl3 = Finset.univ :=
  Ring.lead_cover (s := S3x1024x1024) 0 1 (fun k => ![k.val, 0, 0]) S1x1024x1024.size inb3 (fun b => (Nat.one_mul _).symm) (by decide) rfl (by decide) rfl
theorem sl4_disjoint : ∀ b b', b ≠ b' → Disjoint (sl4 b) (sl4 b') :=
  Ring.lead_disjoint (s := S4x1024x1024) 0 1 (fun k => ![k.val, 0, 0]) S1x1024x1024.size inb4 (fun b => (Nat.one_mul _).symm) rfl
theorem sl4_cover : Finset.univ.biUnion sl4 = Finset.univ :=
  Ring.lead_cover (s := S4x1024x1024) 0 1 (fun k => ![k.val, 0, 0]) S1x1024x1024.size inb4 (fun b => (Nat.one_mul _).symm) (by decide) rfl (by decide) rfl
theorem cl8_disjoint : ∀ b b', b ≠ b' → Disjoint (cl8 b) (cl8 b') :=
  Ring.lead_disjoint (s := S1024x8192) 1 1024 (fun k => ![0, 1024 * k.val]) S1024x1024.size inb8 (fun b => rfl) rfl
theorem cl8_cover : Finset.univ.biUnion cl8 = Finset.univ :=
  Ring.lead_cover (s := S1024x8192) 1 1024 (fun k => ![0, 1024 * k.val]) S1024x1024.size inb8 (fun b => rfl) (by decide) rfl (by decide) rfl

section Sets
/-- A slot's or a column block's view covers its rectangle of the array. -/
theorem xs_set (k : ℕ) (h : ∀ a, (![k, 0, 0] : Fin 3 → ℕ) a + S1x1024x1024.size a ≤ S2x1024x1024.size a) :
    (xsSl k h).view.set = (Rect.unit (s := S2x1024x1024) ![k, 0, 0] S1x1024x1024.size h).set := (View.set_reshape _ _).trans (View.set_slice_whole _ _)
theorem x8_set (k : ℕ) (h : ∀ a, (![k, 0, 0] : Fin 3 → ℕ) a + S1x1024x1024.size a ≤ S4x1024x1024.size a) :
    (x8Sl k h).view.set = (Rect.unit (s := S4x1024x1024) ![k, 0, 0] S1x1024x1024.size h).set := (View.set_reshape _ _).trans (View.set_slice_whole _ _)
theorem cm_set (k : ℕ) (h : ∀ a, (![k, 0, 0] : Fin 3 → ℕ) a + S1x1024x1024.size a ≤ S3x1024x1024.size a) :
    (cmSl k h).view.set = (Rect.unit (s := S3x1024x1024) ![k, 0, 0] S1x1024x1024.size h).set := (View.set_reshape _ _).trans (View.set_slice_whole _ _)
theorem wb_set (k : ℕ) (h : ∀ a, (![k, 0, 0] : Fin 3 → ℕ) a + S1x1024x1024.size a ≤ S3x1024x1024.size a) :
    (wbSl k h).view.set = (Rect.unit (s := S3x1024x1024) ![k, 0, 0] S1x1024x1024.size h).set := (View.set_reshape _ _).trans (View.set_slice_whole _ _)
theorem ac_set (o : ℕ) (h : ∀ a, (![0, o] : Fin 2 → ℕ) a + S1024x1024.size a ≤ S1024x8192.size a) :
    (acSl o h).view.set = (Rect.unit (s := S1024x8192) ![0, o] S1024x1024.size h).set := View.set_slice_whole _ _
theorem o_set (o : ℕ) (h : ∀ a, (![0, o] : Fin 2 → ℕ) a + S1024x1024.size a ≤ S1024x8192.size a) :
    (oSl o h).view.set = (Rect.unit (s := S1024x8192) ![0, o] S1024x1024.size h).set := View.set_slice_whole _ _
end Sets

variable (c : Dev nD)

/-- A buffer of device `c` held whole at some contents. -/
abbrev whole' (b : Ref sig .tc) : sProp 𝕄 := iprop(∃ f : Buf (Elt F) ((c : Thread nD τ).loc b), ((c : Thread nD τ).loc b) ↦{fullShare} f)
/-- Some elements of it at some contents. -/
abbrev part' (b : Ref sig .tc) (I : Finset (Idx ((c : Thread nD τ).loc b))) : sProp 𝕄 :=
  iprop(∃ f : Buf (Elt F) ((c : Thread nD τ).loc b), ((c : Thread nD τ).loc b) ↦[I]{fullShare} f)

/-- Pieces at some contents join. -/
theorem join {b : Ref sig .tc} {n : ℕ} (I : Fin n → Finset (Idx ((c : Thread nD τ).loc b))) (hd : ∀ b b', b ≠ b' → Disjoint (I b) (I b'))
    (hc : Finset.univ.biUnion I = Finset.univ) (f₀ : Buf (Elt F) ((c : Thread nD τ).loc b)) : (bigSep Finset.univ fun k => part' c b (I k)) ⊢ (whole' c b : sProp 𝕄) :=
  Ring.pointsTo_blocks_join_exists I hd hc f₀

/-- Owning a slot or a column block at some contents is owning that piece of its array. -/
theorem xs_eq (k : ℕ) (h : ∀ a, (![k, 0, 0] : Fin 3 → ℕ) a + S1x1024x1024.size a ≤ S2x1024x1024.size a) :
    (some' c (xsSl k h) : sProp 𝕄) = part' c cc0_scratch0 (Rect.unit (s := S2x1024x1024) ![k, 0, 0] S1x1024x1024.size h).set := by unfold some'; rw [xs_set]
theorem x8_eq (k : ℕ) (h : ∀ a, (![k, 0, 0] : Fin 3 → ℕ) a + S1x1024x1024.size a ≤ S4x1024x1024.size a) :
    (some' c (x8Sl k h) : sProp 𝕄) = part' c cc0_scratch1 (Rect.unit (s := S4x1024x1024) ![k, 0, 0] S1x1024x1024.size h).set := by unfold some'; rw [x8_set]
theorem cm_eq (k : ℕ) (h : ∀ a, (![k, 0, 0] : Fin 3 → ℕ) a + S1x1024x1024.size a ≤ S3x1024x1024.size a) :
    (some' c (cmSl k h) : sProp 𝕄) = part' c cc0_scratch2 (Rect.unit (s := S3x1024x1024) ![k, 0, 0] S1x1024x1024.size h).set := by unfold some'; rw [cm_set]
theorem wb_eq (k : ℕ) (h : ∀ a, (![k, 0, 0] : Fin 3 → ℕ) a + S1x1024x1024.size a ≤ S3x1024x1024.size a) :
    (some' c (wbSl k h) : sProp 𝕄) = part' c cc0_scratch3 (Rect.unit (s := S3x1024x1024) ![k, 0, 0] S1x1024x1024.size h).set := by unfold some'; rw [wb_set]
theorem ac_eq (o : ℕ) (h : ∀ a, (![0, o] : Fin 2 → ℕ) a + S1024x1024.size a ≤ S1024x8192.size a) :
    (some' c (acSl o h) : sProp 𝕄) = part' c cc0_scratch4 (Rect.unit (s := S1024x8192) ![0, o] S1024x1024.size h).set := by unfold some'; rw [ac_set]
theorem o_eq (o : ℕ) (h : ∀ a, (![0, o] : Fin 2 → ℕ) a + S1024x1024.size a ≤ S1024x8192.size a) :
    (some' c (oSl o h) : sProp 𝕄) = part' c main_v1 (Rect.unit (s := S1024x8192) ![0, o] S1024x1024.size h).set := by unfold some'; rw [o_set]

/-! ## The scratch buffers -/

/-- The five scratch buffers, each whole at some contents. -/
def scratch : sProp 𝕄 := iprop(whole' c cc0_scratch0 ∗ whole' c cc0_scratch1 ∗ whole' c cc0_scratch2 ∗ whole' c cc0_scratch3 ∗ whole' c cc0_scratch4)

/-- The scratch buffers are the slots and the accumulator's columns, -/
theorem scratch_cut : (scratch c : sProp 𝕄) ⊢ iprop(slots c ∗ cols c) := by
  unfold scratch slots cols
  simp only [xs_eq, x8_eq, cm_eq, wb_eq, ac_eq]
  iintro ⟨Hx, H8, Hc, Hw, Ha⟩
  ihave Hx := (BIBase.Entails.trans (cut (F := F) (ℓ := (c : Thread nD τ).loc cc0_scratch0) sl2 sl2_disjoint sl2_cover) (Entails.of_eq (bigSep_fin2 _))) $$ Hx
  ihave H8 := (BIBase.Entails.trans (cut (F := F) (ℓ := (c : Thread nD τ).loc cc0_scratch1) sl4 sl4_disjoint sl4_cover) (Entails.of_eq (bigSep_fin4 _))) $$ H8
  ihave Hc := (BIBase.Entails.trans (cut (F := F) (ℓ := (c : Thread nD τ).loc cc0_scratch2) sl3 sl3_disjoint sl3_cover) (Entails.of_eq (bigSep_fin3 _))) $$ Hc
  ihave Hw := (BIBase.Entails.trans (cut (F := F) (ℓ := (c : Thread nD τ).loc cc0_scratch3) sl3 sl3_disjoint sl3_cover) (Entails.of_eq (bigSep_fin3 _))) $$ Hw
  ihave Ha := (BIBase.Entails.trans (cut (F := F) (ℓ := (c : Thread nD τ).loc cc0_scratch4) cl8 cl8_disjoint cl8_cover) (Entails.of_eq (bigSep_fin8 _))) $$ Ha
  icases Hx with ⟨Hx0, Hx1⟩
  icases H8 with ⟨H80, H81, H82, H83⟩
  icases Hc with ⟨Hc0, Hc1, Hc2⟩
  isplitr [Ha]
  · isplitl [Hx0]; · iexact Hx0
    isplitl [Hx1]; · iexact Hx1
    isplitl [H80]; · iexact H80
    isplitl [H81]; · iexact H81
    isplitl [H82]; · iexact H82
    isplitl [H83]; · iexact H83
    isplitl [Hc0]; · iexact Hc0
    isplitl [Hc2]; · iexact Hc2
    isplitl [Hc1]; · iexact Hc1
    iexact Hw
  iexact Ha

/-- and back. -/
theorem scratch_join : iprop(slots c ∗ cols c) ⊢ (scratch c : sProp 𝕄) := by
  unfold scratch slots cols
  simp only [xs_eq, x8_eq, cm_eq, wb_eq, ac_eq]
  iintro ⟨⟨⟨%fx, Hx0⟩, Hx1, ⟨%f8, H80⟩, H81, H82, H83, ⟨%fc, Hc0⟩, Hc2, Hc1, ⟨%fw, Hw0⟩, Hw1, Hw2⟩, ⟨%fa, Ha0⟩, Ha⟩
  isplitl [Hx0 Hx1]
  · iapply (join (F := F) c (b := cc0_scratch0) sl2 sl2_disjoint sl2_cover fx)
    iapply (Entails.of_eq (bigSep_fin2 _).symm)
    isplitl [Hx0]; · iexists fx; iexact Hx0
    iexact Hx1
  isplitl [H80 H81 H82 H83]
  · iapply (join (F := F) c (b := cc0_scratch1) sl4 sl4_disjoint sl4_cover f8)
    iapply (Entails.of_eq (bigSep_fin4 _).symm)
    isplitl [H80]; · iexists f8; iexact H80
    isplitl [H81]; · iexact H81
    isplitl [H82]; · iexact H82
    iexact H83
  isplitl [Hc0 Hc1 Hc2]
  · iapply (join (F := F) c (b := cc0_scratch2) sl3 sl3_disjoint sl3_cover fc)
    iapply (Entails.of_eq (bigSep_fin3 _).symm)
    isplitl [Hc0]; · iexists fc; iexact Hc0
    isplitl [Hc1]; · iexact Hc1
    iexact Hc2
  isplitl [Hw0 Hw1 Hw2]
  · iapply (join (F := F) c (b := cc0_scratch3) sl3 sl3_disjoint sl3_cover fw)
    iapply (Entails.of_eq (bigSep_fin3 _).symm)
    isplitl [Hw0]; · iexists fw; iexact Hw0
    isplitl [Hw1]; · iexact Hw1
    iexact Hw2
  iapply (join (F := F) c (b := cc0_scratch4) cl8 cl8_disjoint cl8_cover fa)
  iapply (Entails.of_eq (bigSep_fin8 _).symm)
  isplitl [Ha0]; · iexists fa; iexact Ha0
  iexact Ha

/-! ## The result -/

/-- The result's array is its column blocks, -/
theorem outs_cut : (whole' c main_v1 : sProp 𝕄) ⊢ outs c := by
  unfold outs
  simp only [o_eq]
  exact (cut (F := F) (ℓ := (c : Thread nD τ).loc main_v1) cl8 cl8_disjoint cl8_cover).trans (Entails.of_eq (bigSep_fin8 _))

/-- Contents of the result that read in column block `k` what the body computed there. -/
def ResCol (s0 : Buf (Elt F) ((Dev.tc c : Thread nD τ).loc cc0_stg0_0)) (s1 : Buf (Elt F) ((Dev.tc c : Thread nD τ).loc cc0_stg1_0))
    (k : Fin 8) (g : Buf (Elt F) ((c : Thread nD τ).loc main_v1)) : Prop :=
  match k with
  | 0 => (oSl 0 inb_S1024x8192_S1024x1024_0_0).view.read (Elt F) g = colOf m k0_off1 k0_off1_inb c s0 s1
  | 1 => (oSl 1024 inb_S1024x8192_S1024x1024_0_1024).view.read (Elt F) g = colOf m k0_off2 k0_off2_inb c s0 s1
  | 2 => (oSl 2048 inb_S1024x8192_S1024x1024_0_2048).view.read (Elt F) g = colOf m k0_off4 k0_off4_inb c s0 s1
  | 3 => (oSl 3072 inb_S1024x8192_S1024x1024_0_3072).view.read (Elt F) g = colOf m k0_off5 k0_off5_inb c s0 s1
  | 4 => (oSl 4096 inb_S1024x8192_S1024x1024_0_4096).view.read (Elt F) g = colOf m k0_off6 k0_off6_inb c s0 s1
  | 5 => (oSl 5120 inb_S1024x8192_S1024x1024_0_5120).view.read (Elt F) g = colOf m k0_off7 k0_off7_inb c s0 s1
  | 6 => (oSl 6144 inb_S1024x8192_S1024x1024_0_6144).view.read (Elt F) g = colOf m k0_off8 k0_off8_inb c s0 s1
  | 7 => (oSl 7168 inb_S1024x8192_S1024x1024_0_7168).view.read (Elt F) g = colOf m k0_off9 k0_off9_inb c s0 s1

/-- That a column block reads something is a matter of that column block. -/
theorem o_congr {o : ℕ} {h : ∀ a, (![0, o] : Fin 2 → ℕ) a + S1024x1024.size a ≤ S1024x8192.size a} {f g : Buf (Elt F) ((c : Thread nD τ).loc main_v1)}
    {v : Vec F S1024x1024 .f32} (e : ∀ i ∈ (Rect.unit (s := S1024x8192) ![0, o] S1024x1024.size h).set, g i = f i)
    (hf : (oSl o h).view.read (Elt F) f = v) : (oSl o h).view.read (Elt F) g = v :=
  (View.read_congr_of_subset (oSl o h).view _ (o_set o h).le e).trans hf

/-- What column block `k` reads is a matter of column block `k`. -/
theorem resCol_congr (s0 : Buf (Elt F) ((Dev.tc c : Thread nD τ).loc cc0_stg0_0)) (s1 : Buf (Elt F) ((Dev.tc c : Thread nD τ).loc cc0_stg1_0))
    (k : Fin 8) (f g : Buf (Elt F) ((c : Thread nD τ).loc main_v1)) (h : ∀ i ∈ cl8 k, g i = f i) (hf : ResCol m c s0 s1 k f) : ResCol m c s0 s1 k g := by
  fin_cases k <;> exact o_congr c h hf

/-- The column block that the body leaves, as a piece of the result's array. -/
theorem resAt_eq (s0 : Buf (Elt F) ((Dev.tc c : Thread nD τ).loc cc0_stg0_0)) (s1 : Buf (Elt F) ((Dev.tc c : Thread nD τ).loc cc0_stg1_0))
    (o : ℕ) (ho : ∀ a, (![0, o] : Fin 2 → ℕ) a + S1024x1024.size a ≤ S1024x8192.size a)
    (off : Dev nD → BitVec 32 → Fin 2 → ℕ) (h : ∀ d0 : Dev nD, ∀ r : Fin 4, ∀ a, (off d0 (BitVec.ofNat 32 r.val)) a + S1024x1024.size a ≤ S4096x8192.size a) :
    resAt m c s0 s1 o ho off h = iprop(∃ f : Buf (Elt F) ((c : Thread nD τ).loc main_v1), ⌜(oSl o ho).view.read (Elt F) f = colOf m off h c s0 s1⌝
      ∗ ((c : Thread nD τ).loc main_v1) ↦[(Rect.unit (s := S1024x8192) ![0, o] S1024x1024.size ho).set]{fullShare} f) := by
  unfold resAt; rw [o_set]

/-- and the column blocks as the body leaves them are an array that reads everywhere what the body computed. -/
theorem res_join (s0 : Buf (Elt F) ((Dev.tc c : Thread nD τ).loc cc0_stg0_0)) (s1 : Buf (Elt F) ((Dev.tc c : Thread nD τ).loc cc0_stg1_0)) :
    (res m c s0 s1 : sProp 𝕄) ⊢ iprop(∃ g : Buf (Elt F) ((c : Thread nD τ).loc main_v1), ⌜∀ k, ResCol m c s0 s1 k g⌝ ∗ ((c : Thread nD τ).loc main_v1) ↦{fullShare} g) := by
  unfold res
  simp only [resAt_eq]
  exact (Entails.of_eq (bigSep_fin8 (F := F) fun k => iprop(∃ f : Buf (Elt F) ((c : Thread nD τ).loc main_v1), ⌜ResCol m c s0 s1 k f⌝ ∗ ((c : Thread nD τ).loc main_v1) ↦[cl8 k]{fullShare} f)).symm).trans
    (join_sat (F := F) (ℓ := (c : Thread nD τ).loc main_v1) cl8 cl8_disjoint cl8_cover (ResCol m c s0 s1) (resCol_congr m c s0 s1) (m ((c : Thread nD τ).loc main_v1)))

end Cert.KernelIdealProof
-- ==== Proof.KernelIdeal.Ghost.lean ====
/-
# The protocol's ghost state at launch

The launch hands every device its semaphores at zero and the protocol's fresh ghost state. Here the seven cells of every
device become invariants shared by all devices, the duty tokens go from the device whose cell they belong to to the device
that pays them, and the launch credit of what the devices owe each other becomes one credit per cell.
-/
module

public import proofs.«01_k».proof.Proof.KernelIdeal.State

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens -/

/-- The semaphores of the seven cells: barrier, send 1 to 3, receive 0 to 2. -/
abbrev csem : Fin 7 → SemLoc sig
  | 0 => .reg barS
  | 1 => .dma (sendS 1 inb_S4_S1_1).sem | 2 => .dma (sendS 2 inb_S4_S1_2).sem | 3 => .dma (sendS 3 inb_S4_S1_3).sem
  | 4 => .dma (recvS 0 inb_S3_S1_0).sem | 5 => .dma (recvS 1 inb_S3_S1_1).sem | 6 => .dma (recvS 2 inb_S3_S1_2).sem
/-- Cell `ck.2` of device `ck.1`. -/
abbrev kcell (ck : Dev nD × Fin 7) : GSem nD τ sig := ((Dev.tc ck.1 : Thread nD τ), csem ck.2)

/-- The send semaphore no copy completes on. -/
abbrev idleS : DmaSem sig := (sendS 0 (by decide)).sem

/-- The kernel's own scoped semaphores. -/
abbrev osem : Fin 20 → SemLoc sig :=
  ![.dma (xsS 0 inb_S2_S1_0).sem, .dma (xsS 1 inb_S2_S1_1).sem, .dma idleS,
    .dma (sendS 1 inb_S4_S1_1).sem, .dma (sendS 2 inb_S4_S1_2).sem, .dma (sendS 3 inb_S4_S1_3).sem,
    .dma (recvS 0 inb_S3_S1_0).sem, .dma (recvS 1 inb_S3_S1_1).sem, .dma (recvS 2 inb_S3_S1_2).sem,
    .dma (wS 0 inb_S3_S1_0).sem, .dma (wS 1 inb_S3_S1_1).sem, .dma (wS 2 inb_S3_S1_2).sem,
    .dma (outS 0 inb_S8_S1_0).sem, .dma (outS 1 inb_S8_S1_1).sem, .dma (outS 2 inb_S8_S1_2).sem, .dma (outS 3 inb_S8_S1_3).sem,
    .dma (outS 4 inb_S8_S1_4).sem, .dma (outS 5 inb_S8_S1_5).sem, .dma (outS 6 inb_S8_S1_6).sem, .dma (outS 7 inb_S8_S1_7).sem]

/-- The body's own semaphores are apart from the pipeline's. -/
theorem ownSemFacts : Pipeline.OwnSemFacts cfg0.spec osem := by decide

/-- Different cells are different. -/
theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of the protocol, on all devices. -/
def ringCells : Finset (GSem nD τ sig) := Finset.univ.map ⟨kcell, kcell_injective⟩

/-- The nine duties of a device's cells: which cell, which duty. -/
abbrev dutyOf : Fin 9 → Fin 7 × Fin 4
  | 0 => (0, 1) | 1 => (0, 2) | 2 => (0, 3) | 3 => (1, 0) | 4 => (2, 0) | 5 => (3, 0) | 6 => (4, 0) | 7 => (5, 0) | 8 => (6, 0)
/-- Different duties are different. -/
theorem dutyOf_injective : Function.Injective dutyOf := by decide
abbrev tokOf (cj : Dev nD × Fin 9) : GSem nD τ sig × ℕ × Fin 4 := (kcell (cj.1, (dutyOf cj.2).1), 0, (dutyOf cj.2).2)
theorem tokOf_injective : Function.Injective (tokOf : Dev nD × Fin 9 → GSem nD τ sig × ℕ × Fin 4) := by
  rintro ⟨c, j⟩ ⟨c', j'⟩ h
  have h1 := kcell_injective (congrArg Prod.fst h)
  have h2 : (dutyOf j).2 = (dutyOf j').2 := congrArg (fun x : GSem nD τ sig × ℕ × Fin 4 => x.2.2) h
  have h3 : j = j' := dutyOf_injective (Prod.ext (congrArg Prod.snd h1) h2)
  exact Prod.ext (congrArg (fun p : Dev nD × Fin 7 => p.1) h1) h3
/-- All duty tokens of the protocol. -/
def ringToks : Finset (GSem nD τ sig × ℕ × Fin 4) := Finset.univ.map ⟨tokOf, tokOf_injective⟩

/-- What the launch funds: the pipeline library's cells, the protocol's cells and tokens, no counter yet. -/
def u₀ : UU :=
  (initOf (Pipeline.cells cfgs cellOf_inj) (Pipeline.launchToks cfgs cellOf_inj), initOf ringCells ringToks, 1)

/-- The tokens of the duties of device `c`'s own cells. -/
def ownToks (c : Dev nD) : sProp 𝕄 :=
  iprop(dutyTok ER (barCell c) 0 1 ∗ dutyTok ER (barCell c) 0 2 ∗ dutyTok ER (barCell c) 0 3
    ∗ dutyTok ER (sendCell1 c) 0 0 ∗ dutyTok ER (sendCell2 c) 0 0 ∗ dutyTok ER (sendCell3 c) 0 0
    ∗ dutyTok ER (recvCell0 c) 0 0 ∗ dutyTok ER (recvCell1 c) 0 0 ∗ dutyTok ER (recvCell2 c) 0 0)

/-- What each device is dealt of the protocol's fresh ghost state. -/
def G (c : Dev nD) : sProp 𝕄 :=
  iprop((bigSep Finset.univ fun k : Fin 7 => roundState ER (rd m) (kcell (c, k)) 0)
    ∗ (bigSep Finset.univ fun k : Fin 7 => iprop(atPos ER (kcell (c, k)) 0 ∅ 0 ∗ reached ER (kcell (c, k)) 0)) ∗ ownToks c)

/-- The protocol's state from which device `c`'s body starts, at some names of the invariants. -/
def ghost (c : Dev nD) : sProp 𝕄 := iprop(∃ K : Names, invs m K c ∗ marks c ∗ positions c ∗ toks c)

/-- The idle send semaphore's counter at zero. -/
def idle (c : Dev nD) : sProp 𝕄 := semVal ((Dev.tc c, .dma idleS) : GSem nD τ sig) 0

/-- What the devices together make of their semaphores and `G`. -/
def G' (c : Dev nD) : sProp 𝕄 := iprop(ghost m c ∗ sems c ∗ idle c)

omit [FloatOps F] in
/-- A separating conjunction over seven and nine pieces, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The funded element, dealt out device by device. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_fin9]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal ((Dev.tc c, .dma (xsS 0 inb_S2_S1_0).sem) : GSem nD τ sig) 0
      ∗ semVal ((Dev.tc c, .dma (xsS 1 inb_S2_S1_1).sem) : GSem nD τ sig) 0
      ∗ semVal ((Dev.tc c, .dma idleS) : GSem nD τ sig) 0
      ∗ semVal ((Dev.tc c, .dma (sendS 1 inb_S4_S1_1).sem) : GSem nD τ sig) 0
      ∗ semVal ((Dev.tc c, .dma (sendS 2 inb_S4_S1_2).sem) : GSem nD τ sig) 0
      ∗ semVal ((Dev.tc c, .dma (sendS 3 inb_S4_S1_3).sem) : GSem nD τ sig) 0
      ∗ semVal ((Dev.tc c, .dma (recvS 0 inb_S3_S1_0).sem) : GSem nD τ sig) 0
      ∗ semVal ((Dev.tc c, .dma (recvS 1 inb_S3_S1_1).sem) : GSem nD τ sig) 0
      ∗ semVal ((Dev.tc c, .dma (recvS 2 inb_S3_S1_2).sem) : GSem nD τ sig) 0
      ∗ semVal ((Dev.tc c, .dma (wS 0 inb_S3_S1_0).sem) : GSem nD τ sig) 0
      ∗ semVal ((Dev.tc c, .dma (wS 1 inb_S3_S1_1).sem) : GSem nD τ sig) 0
      ∗ semVal ((Dev.tc c, .dma (wS 2 inb_S3_S1_2).sem) : GSem nD τ sig) 0
      ∗ semVal ((Dev.tc c, .dma (outS 0 inb_S8_S1_0).sem) : GSem nD τ sig) 0
      ∗ semVal ((Dev.tc c, .dma (outS 1 inb_S8_S1_1).sem) : GSem nD τ sig) 0
      ∗ semVal ((Dev.tc c, .dma (outS 2 inb_S8_S1_2).sem) : GSem nD τ sig) 0
      ∗ semVal ((Dev.tc c, .dma (outS 3 inb_S8_S1_3).sem) : GSem nD τ sig) 0
      ∗ semVal ((Dev.tc c, .dma (outS 4 inb_S8_S1_4).sem) : GSem nD τ sig) 0
      ∗ semVal ((Dev.tc c, .dma (outS 5 inb_S8_S1_5).sem) : GSem nD τ sig) 0
      ∗ semVal ((Dev.tc c, .dma (outS 6 inb_S8_S1_6).sem) : GSem nD τ sig) 0
      ∗ semVal ((Dev.tc c, .dma (outS 7 inb_S8_S1_7).sem) : GSem nD τ sig) 0) := by
  rw [Pipeline.ownSems0_eq_of_list c osem [0, 1, 2, 3, 4, 5, 6, 7, 8, 9, 10, 11, 12, 13, 14, 15, 16, 17, 18, 19] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All semaphores of a device at zero are the cells' counters, the local semaphores and the idle one. -/
theorem sems0_split (c : Dev nD) :
    iprop(Pipeline.ownSems0 (Ix := Unit) (Name := ℕ) (U := UU) (Lvl := ℕ) (Val := Elt F) (τ := τ) osem c ∗ unscopedSems0 c)
      ⊢ (iprop(closedCells c ∗ sems c ∗ idle c) : sProp 𝕄) := by
  rw [ownSems0_eq, unscopedSems0_eq]
  unfold closedCells sems idle
  iintro ⟨⟨H0, H1, H2, H3, H4, H5, H6, H7, H8, H9, H10, H11, H12, H13, H14, H15, H16, H17, H18, H19⟩, HB⟩
  iframe

/-- And back. -/
theorem sems0_join (c : Dev nD) :
    (iprop(closedCells c ∗ sems c ∗ idle c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold closedCells sems idle
  iintro ⟨⟨HB, H3, H4, H5, H6, H7, H8⟩, ⟨H0, H1, H9, H10, H11, H12, H13, H14, H15, H16, H17, H18, H19⟩, H2⟩
  iframe

/-! ## The invariants, for all devices at once -/

/-- A device's cells, made invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownToks c ∗ sems c ∗ idle c) := by
  unfold G
  iintro ⟨Hos, Hus, Hst, Hat, Htok⟩
  ihave Hv := (sems0_split (F := F) c) $$ [Hos Hus]
  · isplitl [Hos] <;> iassumption
  icases Hv with ⟨Hv, Hs, Hi⟩
  imod (show iprop(closedCells c ∗ bigSep Finset.univ fun k : Fin 7 => roundState ER (rd m) (kcell (c, k)) 0)
      ⊢ (|={Set.univ}=> bigSep Finset.univ fun k => iprop(∃ κ : ℕ, cellInv ER (rd m) κ (kcell (c, k))) : sProp 𝕄) from by
        rw [show (closedCells c : sProp 𝕄) = bigSep Finset.univ fun k : Fin 7 => semVal (kcell (c, k)) 0 from by unfold closedCells; rw [bigSep_fin7], ← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hs] <;> iassumption

/-- Every cell's invariant and that its round 0 is reached. -/
def records (K : Dev nD × Fin 7 → ℕ) : sProp 𝕄 :=
  iprop((bigSep Finset.univ fun ck : Dev nD × Fin 7 => cellInv ER (rd m) (K ck) (kcell ck))
    ∗ bigSep Finset.univ fun ck : Dev nD × Fin 7 => reached ER (kcell ck) 0)

/-- What is recorded stays. -/
instance records_persistent (K : Dev nD × Fin 7 → ℕ) : BI.Persistent (records m K) := by unfold records; infer_instance

/-- One invariant out of the records, -/
theorem inv_at (K : Dev nD × Fin 7 → ℕ) (ck : Dev nD × Fin 7) :
    (bigSep Finset.univ fun ck : Dev nD × Fin 7 => (cellInv ER (rd m) (K ck) (kcell ck) : sProp 𝕄)) ⊢ cellInv ER (rd m) (K ck) (kcell ck) :=
  bigSep_elim (Finset.mem_univ ck)
omit [FloatOps F] in
/-- and one mark of the first round. -/
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What only one device holds: its positions, the tokens of the duties it pays, its other semaphores. -/
def linear (c : Dev nD) : sProp 𝕄 := iprop(positions c ∗ toks c ∗ sems c ∗ idle c)

/-- A device's share of the protocol, from the records and what only it holds. -/
theorem ghost_intro (K : Dev nD × Fin 7 → ℕ) (c : Dev nD) : iprop(records m K ∗ linear c) ⊢ G' m c := by
  unfold records linear G' ghost invs marks
  iintro ⟨⟨#HI, #HR⟩, Hp, Ht, Hs, Hi⟩
  isplitr [Hs Hi]
  · iexists fun d k => K (d, k)
    isplitr
    · isplitr; · iapply (inv_at m K (c, 0)); iexact HI
      isplitr; · iapply (inv_at m K (nb 1 c, 0)); iexact HI
      isplitr; · iapply (inv_at m K (nb 3 c, 0)); iexact HI
      isplitr; · iapply (inv_at m K (nb 2 c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (nb 3 c, 4)); iexact HI
      isplitr; · iapply (inv_at m K (nb 2 c, 5)); iexact HI
      iapply (inv_at m K (nb 1 c, 6)); iexact HI
    isplitr
    · isplitr; · iapply (reached_at (F := F) (nb 1 c, 0)); iexact HR
      isplitr; · iapply (reached_at (F := F) (nb 3 c, 0)); iexact HR
      isplitr; · iapply (reached_at (F := F) (nb 2 c, 0)); iexact HR
      isplitr; · iapply (reached_at (F := F) (c, 1)); iexact HR
      isplitr; · iapply (reached_at (F := F) (c, 2)); iexact HR
      isplitr; · iapply (reached_at (F := F) (c, 3)); iexact HR
      isplitr; · iapply (reached_at (F := F) (c, 4)); iexact HR
      isplitr; · iapply (reached_at (F := F) (c, 5)); iexact HR
      iapply (reached_at (F := F) (c, 6)); iexact HR
    isplitl [Hp] <;> iassumption
  · isplitl [Hs] <;> iassumption

/-- The devices moved up by one place, by two. -/
def shift1 : Dev nD ≃ Dev nD := ⟨nb 1, nb 3, nb31, nb13⟩
def shift2 : Dev nD ≃ Dev nD := ⟨nb 2, nb 2, nb22, nb22⟩

omit [FloatOps F] in
/-- The tokens go to the devices that pay the duties. -/
theorem toks_around : (bigSep Finset.univ fun c : Dev nD => (ownToks c : sProp 𝕄)) ⊢ bigSep Finset.univ fun c : Dev nD => toks c := by
  unfold ownToks toks
  simp only [bigSep_sep']
  rw [bigSep_univ_equiv shift1 (fun c : Dev nD => (dutyTok ER (barCell c) 0 1 : sProp 𝕄)),
    bigSep_univ_equiv shift2 (fun c : Dev nD => (dutyTok ER (barCell c) 0 2 : sProp 𝕄)),
    bigSep_univ_equiv shift1.symm (fun c : Dev nD => (dutyTok ER (barCell c) 0 3 : sProp 𝕄)),
    bigSep_univ_equiv shift1.symm (fun c : Dev nD => (dutyTok ER (recvCell0 c) 0 0 : sProp 𝕄)),
    bigSep_univ_equiv shift2 (fun c : Dev nD => (dutyTok ER (recvCell1 c) 0 0 : sProp 𝕄)),
    bigSep_univ_equiv shift1 (fun c : Dev nD => (dutyTok ER (recvCell2 c) 0 0 : sProp 𝕄))]
  iintro ⟨H1, H2, H3, HS1, HS2, HS3, HR0, HR1, HR2⟩
  isplitl [H1]; · iexact H1
  isplitl [H3]; · iexact H3
  isplitl [H2]; · iexact H2
  isplitl [HS1]; · iexact HS1
  isplitl [HS2]; · iexact HS2
  isplitl [HS3]; · iexact HS3
  isplitl [HR0]; · iexact HR0
  isplitl [HR1]; · iexact HR1
  iexact HR2

omit [FloatOps F] in
/-- Under a separating conjunction a fact that stays may be used at every index. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What all devices start with, dealt out to the devices that use it. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownToks c ∗ sems c ∗ idle c) : sProp 𝕄)
      ⊢ bigSep Finset.univ (G' m) := by
  rw [bigSep_sep', bigSep_sep', bigSep_sep', ← bigSep_univ_prod (fun ck : Dev nD × Fin 7 => iprop(∃ κ : ℕ, cellInv ER (rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hs⟩
  ihave HK := (BI.bigSep_exists_pi Finset.univ (fun (ck : Dev nD × Fin 7) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (show iprop(bigSep Finset.univ (fun c : Dev nD => positions c) ∗ bigSep Finset.univ (fun c : Dev nD => toks c)
        ∗ bigSep Finset.univ fun c : Dev nD => iprop(sems c ∗ idle c)) = (bigSep Finset.univ (fun c => linear c) : sProp 𝕄) from by
      unfold linear
      simp only [bigSep_sep']))
    isplitl [Hat]
    · iapply (Entails.of_eq (bigSep_congr fun (c : Dev nD) _ => show bigSep Finset.univ (fun k : Fin 7 => (atPos ER (kcell (c, k)) 0 ∅ 0 : sProp 𝕄)) = positions c from by
        unfold positions; rw [bigSep_fin7]))
      iexact Hat
    isplitl [Htk]; · iexact Htk
    iexact Hs

/-- From all devices' semaphores at zero and fresh ghost state to what each device's body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A device's launch credit: the three units its barrier cell waits for, a landing's credit on each receive cell. -/
theorem creds_intro (c : Dev nD) : (Pipeline.launchCred O₀ c : sProp 𝕄) ⊢ creds c := by
  have h (sm : SemLoc sig) (f g : Dev nD → Dev nD) (h1 : ∀ c, f (g c) = c) (h2 : ∀ c, g (f c) = c) (n : ℕ) :=
    Pipeline.launchCred_tallyAt (Ix := Unit) (Val := Elt F) (Name := ℕ) (U := UU) (Lvl := ℕ) (τ := τ) sm f g h1 h2 () n c
  rw [show (O₀ : Dev nD → CellTallies nD τ sig Unit) = fun d => (((((tallyAt (recvCell1 (nb 2 d)) () N + tallyAt (recvCell0 (nb 3 d)) () N) + tallyAt (recvCell2 (nb 1 d)) () N)
    + tallyAt (barCell (nb 2 d)) () 1) + tallyAt (barCell (nb 3 d)) () 1) + tallyAt (barCell (nb 1 d)) () 1) from rfl]
  rw [Pipeline.launchCred_add, Pipeline.launchCred_add, Pipeline.launchCred_add, Pipeline.launchCred_add, Pipeline.launchCred_add]
  unfold creds
  iintro ⟨⟨⟨⟨⟨H1, H0⟩, H2⟩, HB2⟩, HB3⟩, HB1⟩
  ihave H1 := (h (.dma (recvS 1 inb_S3_S1_1).sem) (nb 2) (nb 2) nb22 nb22 N) $$ H1
  ihave H0 := (h (.dma (recvS 0 inb_S3_S1_0).sem) (nb 3) (nb 1) nb31 nb13 N) $$ H0
  ihave H2 := (h (.dma (recvS 2 inb_S3_S1_2).sem) (nb 1) (nb 3) nb13 nb31 N) $$ H2
  ihave HB1 := (h (.reg barS) (nb 1) (nb 3) nb13 nb31 1) $$ HB1
  ihave HB2 := (h (.reg barS) (nb 2) (nb 2) nb22 nb22 1) $$ HB2
  ihave HB3 := (h (.reg barS) (nb 3) (nb 1) nb31 nb13 1) $$ HB3
  isplitl [HB1 HB2 HB3]
  · rw [show tallyAt (barCell c) () 3 = (tallyAt (barCell c) () 1 + (tallyAt (barCell c) () 1 + tallyAt (barCell c) () 1) : CellTallies nD τ sig Unit) from by rw [tallyAt_add, tallyAt_add]]
    iapply (cred_add _ _).2
    isplitl [HB1]; · iexact HB1
    iapply (cred_add _ _).2
    isplitl [HB2] <;> iassumption
  isplitl [H0]; · iexact H0
  isplitl [H1] <;> iassumption

end Cert.KernelIdealProof
-- ==== Proof.KernelIdeal.Body.lean ====
/-
# One run of the body

The body of a device, run once from beginning to end: it stages and sends its blocks of `x`, and then computes the eight
column blocks, each of the own part and of the three that arrive, while `w` comes in through three slots and the finished
column blocks go out.
-/
module

public import proofs.«01_k».proof.Proof.KernelIdeal.State

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_bar amount_bar expect_bar payload_bar1 payload_bar2 payload_bar3
  duties_send1 duties_send2 duties_send3 duties_recv0 duties_recv1 duties_recv2
  amount_send1 amount_send2 amount_send3 amount_recv0 amount_recv1 amount_recv2
  expect_send1 expect_send2 expect_send3 expect_recv0 expect_recv1 expect_recv2
  payload_recv0 payload_recv1 payload_recv2 payload_send1 payload_send2 payload_send3
  nb31 nb13 nb22 barPay0_eq barPay1_eq barPay2_eq recvPay0_eq recvPay1_eq recvPay2_eq sendPay1_eq sendPay2_eq sendPay3_eq

attribute [local irreducible] nb k0_dev1 k0_dev2 k0_dev3 k0_dev4 k0_dev5 k0_dev6
set_option maxHeartbeats 4000000

/-- One device runs the body once: from its share of the protocol, its scratch, its tokens on the inputs and the scales, to
    the result in place, every counter at zero, nothing owed, and the scratch and the inputs given back. -/
theorem body_run (K : Names) (c : Dev nD) (W : Waits sig Unit) (s0 : Buf (Elt F) ((Dev.tc c : Thread nD τ).loc cc0_stg0_0)) (s1 : Buf (Elt F) ((Dev.tc c : Thread nD τ).loc cc0_stg1_0)) (Q : PUnit → sProp 𝕄) :
    iprop(invs m K c ∗ marks c ∗ levAts L lv ∗ positions c ∗ toks c ∗ creds c ∗ sems c ∗ slots c ∗ cols c ∗ outs c ∗ ins m c ∗ scales c s0 s1 ∗ owes (Dev.tc c : Thread nD τ) (O₀ c) W
        ∗ ((sems c ∗ closedCells c ∗ slots c ∗ cols c ∗ res m c s0 s1 ∗ ins m c ∗ scales c s0 s1 ∗ ∃ W', owes (Dev.tc c : Thread nD τ) 0 W') -∗ Q ⟨⟩))
      ⊢ wp frame (wpE (defs₀ (F := F)) 𝒱₀ (Dev.tc c) none) Set.univ
        (cc0_body (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q := by
  rw [cc0_body_eq_skeleton]; unfold cc0_body_skel
  unfold invs marks positions toks creds sems slots cols outs ins scales some'
  delta O₀ O₃ O₂ O₁
  iintro ⟨⟨#Hib, #Hib1, #Hib3, #Hib2, #His1, #His2, #His3, #Hir0, #Hir1, #Hir2, #Hirn0, #Hirn1, #Hirn2⟩,
    ⟨#Hmb1, #Hmb3, #Hmb2, #Hms1, #Hms2, #Hms3, #Hmr0, #Hmr1, #Hmr2⟩, #Hlev,
    ⟨HpB, HpS1, HpS2, HpS3, HpR0, HpR1, HpR2⟩, ⟨Htb1, Htb3, Htb2, Hts1, Hts2, Hts3, Htr0, Htr1, Htr2⟩, ⟨HcB, HcR0, HcR1, HcR2⟩,
    ⟨Hx0, Hx1, Hw0, Hw1, Hw2, Ho0, Ho1, Ho2, Ho3, Ho4, Ho5, Ho6, Ho7⟩,
    ⟨⟨%fxs0, Hxs0⟩, ⟨%fxs1, Hxs1⟩, ⟨%fx80, Hx80⟩, ⟨%fx81, Hx81⟩, ⟨%fx82, Hx82⟩, ⟨%fx83, Hx83⟩, ⟨%fc0, Hcm0⟩, ⟨%fc2, Hcm2⟩, ⟨%fc1, Hcm1⟩,
      ⟨%fw0, Hwb0⟩, ⟨%fw1, Hwb1⟩, ⟨%fw2, Hwb2⟩⟩,
    ⟨⟨%fa0, Ha0⟩, ⟨%fa1, Ha1⟩, ⟨%fa2, Ha2⟩, ⟨%fa3, Ha3⟩, ⟨%fa4, Ha4⟩, ⟨%fa5, Ha5⟩, ⟨%fa6, Ha6⟩, ⟨%fa7, Ha7⟩⟩,
    ⟨⟨%go0, Hg0⟩, ⟨%go1, Hg1⟩, ⟨%go2, Hg2⟩, ⟨%go3, Hg3⟩, ⟨%go4, Hg4⟩, ⟨%go5, Hg5⟩, ⟨%go6, Hg6⟩, ⟨%go7, Hg7⟩⟩,
    ⟨Hin0, Hin1, Hinw0, Hinw1, Hinw2⟩, ⟨Hs0, Hs1⟩, HO, Hk⟩
  have hd1 := dev1_eq c
  have hd2 := dev2_eq c
  have hd3 := dev3_eq c
  have hd4 := dev4_eq c
  have hd5 := dev5_eq c
  have hd6 := dev6_eq c
  have hmwB := mayWait_bar (F := F) c
  have hmw0 := mayWait_O₃ (F := F) c (xsS 0 inb_S2_S1_0).sem (by decide)
  have hmw1 := mayWait_O₂ (F := F) c (xsS 1 inb_S2_S1_1).sem (by decide)
  have hmw2 := mayWait_O₁ (F := F) c (xsS 0 inb_S2_S1_0).sem (by decide)
  set_option sl_exec.stopBefore "k0_part5" in sl_exec
  ihave HpB_all := (sep_three _ _ _) $$ HpB_pay1
  icases HpB_all with ⟨⟨⟨%b0, Hb0⟩, #Hbr0⟩, ⟨⟨%b1, Hb1⟩, #Hbr1⟩, ⟨%b2, Hb2⟩, #Hbr2⟩
  set_option sl_exec.stopBefore "k0_part6" in sl_exec
  ihave Hx80c := (respell (Dev.tc c : Thread nD τ) x80 (body_run.sl.Hx80_w1 m c fx80) (x8C0 m c) ((read_staged xsM x8M (Rect.unit ![0, 0, 0] S1x1024x1024.size inb_S2x1024x1024_S1x1024x1024_0_0_0) (fun _ => rfl) squeezes_S1x1024x1024_S1024x1024 _ (Rect.unit ![0, 0, 0] S1x1024x1024.size inb_S4x1024x1024_S1x1024x1024_0_0_0) (fun _ => rfl) squeezes_S1x1024x1024_S1024x1024 _ _ _ _ _).trans (View.read_write_univ _ _).symm)) $$ Hx80
  set_option sl_exec.stopBefore "k0_part6" in sl_exec
  set_option sl_exec.stopBefore "k0_part8" in sl_exec
  ihave Hx81c := (respell (Dev.tc c : Thread nD τ) x81 (body_run.sl.Hx81_w1 m c fx81) (x8C1 m c) ((read_staged xsM x8M (Rect.unit ![1, 0, 0] S1x1024x1024.size inb_S2x1024x1024_S1x1024x1024_1_0_0) (fun _ => rfl) squeezes_S1x1024x1024_S1024x1024 _ (Rect.unit ![1, 0, 0] S1x1024x1024.size inb_S4x1024x1024_S1x1024x1024_1_0_0) (fun _ => rfl) squeezes_S1x1024x1024_S1024x1024 _ _ _ _ _).trans (View.read_write_univ _ _).symm)) $$ Hx81
  set_option sl_exec.stopBefore "k0_part8" in sl_exec
  set_option sl_exec.stopBefore "k0_part10" in sl_exec
  ihave Hx82c := (respell (Dev.tc c : Thread nD τ) x82 (body_run.sl.Hx82_w1 m c fx82) (x8C2 m c) ((read_staged xsM x8M (Rect.unit ![0, 0, 0] S1x1024x1024.size inb_S2x1024x1024_S1x1024x1024_0_0_0) (fun _ => rfl) squeezes_S1x1024x1024_S1024x1024 _ (Rect.unit ![2, 0, 0] S1x1024x1024.size inb_S4x1024x1024_S1x1024x1024_2_0_0) (fun _ => rfl) squeezes_S1x1024x1024_S1024x1024 _ _ _ _ _).trans (View.read_write_univ _ _).symm)) $$ Hx82
  sl_exec
  ihave Hr0 := (resAt_intro m c s0 s1 0 inb_S1024x8192_S1024x1024_0_0 k0_off1 k0_off1_inb _ (body_run.sl.dma5_2 m c s0 s1 fa0 HpR2_pay1_v HpR0_pay1_v HpR1_pay1_v)
    (ac_read 0 inb_S1024x8192_S1024x1024_0_0 _ (outOf_run m c s0 s1 _ _ _ _ _ _ _ _ _ (load_wb 0 _ _ _ _) (load_wb 2 _ _ _ _) (load_wb 1 _ _ _ _) (load_wb 0 _ _ _ _)))) $$ Hg0
  ihave Hr1 := (resAt_intro m c s0 s1 1024 inb_S1024x8192_S1024x1024_0_1024 k0_off2 k0_off2_inb _ (body_run.sl.dma9_3 m c s0 s1 fa1 HpR2_pay1_v HpR0_pay1_v HpR1_pay1_v)
    (ac_read 1024 inb_S1024x8192_S1024x1024_0_1024 _ (outOf_run m c s0 s1 _ _ _ _ _ _ _ _ _ (load_wb 1 _ _ _ _) (load_wb 0 _ _ _ _) (load_wb 2 _ _ _ _) (load_wb 1 _ _ _ _)))) $$ Hg1
  ihave Hr2 := (resAt_intro m c s0 s1 2048 inb_S1024x8192_S1024x1024_0_2048 k0_off4 k0_off4_inb _ (body_run.sl.dma13_2 m c s0 s1 fa2 HpR2_pay1_v HpR0_pay1_v HpR1_pay1_v)
    (ac_read 2048 inb_S1024x8192_S1024x1024_0_2048 _ (outOf_run m c s0 s1 _ _ _ _ _ _ _ _ _ (load_wb 2 _ _ _ _) (load_wb 1 _ _ _ _) (load_wb 0 _ _ _ _) (load_wb 2 _ _ _ _)))) $$ Hg2
  ihave Hr3 := (resAt_intro m c s0 s1 3072 inb_S1024x8192_S1024x1024_0_3072 k0_off5 k0_off5_inb _ (body_run.sl.dma17_2 m c s0 s1 fa3 HpR2_pay1_v HpR0_pay1_v HpR1_pay1_v)
    (ac_read 3072 inb_S1024x8192_S1024x1024_0_3072 _ (outOf_run m c s0 s1 _ _ _ _ _ _ _ _ _ (load_wb 0 _ _ _ _) (load_wb 2 _ _ _ _) (load_wb 1 _ _ _ _) (load_wb 0 _ _ _ _)))) $$ Hg3
  ihave Hr4 := (resAt_intro m c s0 s1 4096 inb_S1024x8192_S1024x1024_0_4096 k0_off6 k0_off6_inb _ (body_run.sl.dma21_3 m c s0 s1 fa4 HpR2_pay1_v HpR0_pay1_v HpR1_pay1_v)
    (ac_read 4096 inb_S1024x8192_S1024x1024_0_4096 _ (outOf_run m c s0 s1 _ _ _ _ _ _ _ _ _ (load_wb 1 _ _ _ _) (load_wb 0 _ _ _ _) (load_wb 2 _ _ _ _) (load_wb 1 _ _ _ _)))) $$ Hg4
  ihave Hr5 := (resAt_intro m c s0 s1 5120 inb_S1024x8192_S1024x1024_0_5120 k0_off7 k0_off7_inb _ (body_run.sl.dma25_2 m c s0 s1 fa5 HpR2_pay1_v HpR0_pay1_v HpR1_pay1_v)
    (ac_read 5120 inb_S1024x8192_S1024x1024_0_5120 _ (outOf_run m c s0 s1 _ _ _ _ _ _ _ _ _ (load_wb 2 _ _ _ _) (load_wb 1 _ _ _ _) (load_wb 0 _ _ _ _) (load_wb 2 _ _ _ _)))) $$ Hg5
  ihave Hr6 := (resAt_intro m c s0 s1 6144 inb_S1024x8192_S1024x1024_0_6144 k0_off8 k0_off8_inb _ (body_run.sl.dma29_2 m c s0 s1 fa6 HpR2_pay1_v HpR0_pay1_v HpR1_pay1_v)
    (ac_read 6144 inb_S1024x8192_S1024x1024_0_6144 _ (outOf_run m c s0 s1 _ _ _ _ _ _ _ _ _ (load_wb 0 _ _ _ _) (load_wb 2 _ _ _ _) (load_wb 1 _ _ _ _) (load_wb 0 _ _ _ _)))) $$ Hg6
  ihave Hr7 := (resAt_intro m c s0 s1 7168 inb_S1024x8192_S1024x1024_0_7168 k0_off9 k0_off9_inb _ (body_run.sl.dma33 m c s0 s1 fa7 HpR2_pay1_v HpR0_pay1_v HpR1_pay1_v)
    (ac_read 7168 inb_S1024x8192_S1024x1024_0_7168 _ (outOf_run m c s0 s1 _ _ _ _ _ _ _ _ _ (load_wb 1 _ _ _ _) (load_wb 0 _ _ _ _) (load_wb 2 _ _ _ _) (load_wb 1 _ _ _ _)))) $$ Hg7
  imod (shut m (K c 0) (barCell c)) $$ [HpB] with HzB
  · isplitr; · iexact Hib
    iexact HpB
  imod (shut m (K c 1) (sendCell1 c)) $$ [HpS1] with HzS1
  · isplitr; · iexact His1
    iexact HpS1
  imod (shut m (K c 2) (sendCell2 c)) $$ [HpS2] with HzS2
  · isplitr; · iexact His2
    iexact HpS2
  imod (shut m (K c 3) (sendCell3 c)) $$ [HpS3] with HzS3
  · isplitr; · iexact His3
    iexact HpS3
  imod (shut m (K c 4) (recvCell0 c)) $$ [HpR0] with HzR0
  · isplitr; · iexact Hir0
    iexact HpR0
  imod (shut m (K c 5) (recvCell1 c)) $$ [HpR1] with HzR1
  · isplitr; · iexact Hir1
    iexact HpR1
  imod (shut m (K c 6) (recvCell2 c)) $$ [HpR2] with HzR2
  · isplitr; · iexact Hir2
    iexact HpR2
  sl_step
  iapply Hk
  unfold closedCells res
  isplitl [Hx0 Hx1 Hw0 Hw1 Hw2 Ho0 Ho1 Ho2 Ho3 Ho4 Ho5 Ho6 Ho7]
  · isplitl [Hx0]; · iexact Hx0
    isplitl [Hx1]; · iexact Hx1
    isplitl [Hw0]; · iexact Hw0
    isplitl [Hw1]; · iexact Hw1
    isplitl [Hw2]; · iexact Hw2
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [HzB HzS1 HzS2 HzS3 HzR0 HzR1 HzR2]
  · isplitl [HzB]; · iexact HzB
    isplitl [HzS1]; · iexact HzS1
    isplitl [HzS2]; · iexact HzS2
    isplitl [HzS3]; · iexact HzS3
    isplitl [HzR0]; · iexact HzR0
    isplitl [HzR1]; · iexact HzR1
    iexact HzR2
  isplitl [Hxs0 Hxs1 HpS1_pay1 HpS3_pay1 HpS2_pay1 Hx83 HpR0_pay1 HpR2_pay1 HpR1_pay1 Hwb0 Hwb1 Hwb2]
  · isplitl [Hxs0]; · iexists _; iexact Hxs0
    isplitl [Hxs1]; · iexists _; iexact Hxs1
    isplitl [HpS1_pay1]; · iexists _; iexact HpS1_pay1
    isplitl [HpS3_pay1]; · iexists _; iexact HpS3_pay1
    isplitl [HpS2_pay1]; · iexists _; iexact HpS2_pay1
    isplitl [Hx83]; · iexists _; iexact Hx83
    isplitl [HpR0_pay1]; · iexists _; iexact HpR0_pay1
    isplitl [HpR2_pay1]; · iexists _; iexact HpR2_pay1
    isplitl [HpR1_pay1]; · iexists _; iexact HpR1_pay1
    isplitl [Hwb0]; · iexists _; iexact Hwb0
    isplitl [Hwb1]; · iexists _; iexact Hwb1
    iexists _; iexact Hwb2
  isplitl [Ha0 Ha1 Ha2 Ha3 Ha4 Ha5 Ha6 Ha7]
  · isplitl [Ha0]; · iexists _; iexact Ha0
    isplitl [Ha1]; · iexists _; iexact Ha1
    isplitl [Ha2]; · iexists _; iexact Ha2
    isplitl [Ha3]; · iexists _; iexact Ha3
    isplitl [Ha4]; · iexists _; iexact Ha4
    isplitl [Ha5]; · iexists _; iexact Ha5
    isplitl [Ha6]; · iexists _; iexact Ha6
    iexists _; iexact Ha7
  isplitl [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hin0 Hin1 Hinw0 Hinw1 Hinw2]
  · isplitl [Hin0]; · iexact Hin0
    isplitl [Hin1]; · iexact Hin1
    isplitl [Hinw0]; · iexact Hinw0
    isplitl [Hinw1]; · iexact Hinw1
    iexact Hinw2
  isplitl [Hs0 Hs1]
  · isplitl [Hs0]; · iexact Hs0
    iexact Hs1
  iexists _; iexact HO

end Cert.KernelIdealProof
-- ==== Proof.KernelIdeal.Run.lean ====
/-
# The run of the kernel

The kernel's region launched on four devices: from any memory with every counter at zero, every weakly fair execution
terminates; the inputs hold what they held, every counter is back at zero, and the result of each device reads, column
block by column block, what the body computed.
-/
module

public import proofs.«01_k».proof.Proof.KernelIdeal.Arrays
public import proofs.«01_k».proof.Proof.KernelIdeal.Ghost
public import proofs.«01_k».proof.Proof.KernelIdeal.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The initial state: memory `m`, every counter zero. -/
def s₀ : MemSt nD τ sig (Elt F) := ⟨m, fun _ => 0, ρ⟩

/-! ## What the body starts from and ends with -/

/-- The two scales as the pipeline stages them. -/
def stg0 (c : Dev nD) : Buf (Elt F) ((Dev.tc c : Thread nD τ).loc cc0_stg0_0) := (win0_0.blk (0 : Fin 1)).view.read (Elt F) (m ((c : Thread nD τ).loc main_arg2))
def stg1 (c : Dev nD) : Buf (Elt F) ((Dev.tc c : Thread nD τ).loc cc0_stg1_0) := (win0_1.blk (0 : Fin 1)).view.read (Elt F) (m ((c : Thread nD τ).loc main_arg3))

/-- What device `c` starts with besides its scratch. -/
def start (c : Dev nD) : sProp 𝕄 := iprop(ghost m c ∗ levAts L lv ∗ creds c ∗ sems c ∗ idle c ∗ outs c ∗ ins m c)

/-- What the body has before its one run, -/
def Φ₀ (c : Dev nD) : sProp 𝕄 := iprop(start m c ∗ scratch c)
/-- What it ends with: its counters at zero, its scratch, its result. -/
def Φ₁ (c : Dev nD) : sProp 𝕄 := iprop(closedCells c ∗ sems c ∗ idle c ∗ scratch c ∗ res m c (stg0 m c) (stg1 m c))

/-- The data of the one pipeline: the two scales are its windows, staged before the body and never written back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- The two windows, written out. -/
theorem bigSep_W (Φ : Fin cfg0.W → sProp 𝕄) : bigSep Finset.univ Φ = iprop(Φ (0 : Fin 2) ∗ Φ (1 : Fin 2)) := bigSep_W0 Φ

/-- The region has one grid point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Both scales are fetched there. -/
theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

omit [FloatOps F] in
/-- Owning a whole array through its memref is owning the array. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
def stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the body is called with, -/
def bodyPre (c : Dev nD) : sProp 𝕄 :=
  iprop(Φ₀ m c ∗ (dats m ρ 0 c).owesAt () t₀.castSucc
    ∗ (∃ d, stgAt c cc0_stg0_0 ((dats m ρ 0 c).before (0 : Fin 2) t₀ d)) ∗ (∃ d, stgAt c cc0_stg1_0 ((dats m ρ 0 c).before (1 : Fin 2) t₀ d)))

set_option maxRecDepth 4000 in
/-- and what it gives back. -/
def bodyPost (c : Dev nD) : sProp 𝕄 :=
  iprop(Φ₁ m c ∗ (dats m ρ 0 c).owesAt () t₀.succ ∗ stgAt c cc0_stg0_0 (stg0 m c) ∗ stgAt c cc0_stg1_0 (stg1 m c))

set_option maxRecDepth 20000 in
/-- The body runs from what the launch hands over to what it takes back. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (Dev.tc c) none) Set.univ
    (cc0_body (Memref.whole main_arg0) (Memref.isWhole_whole _) (Memref.whole main_arg1) (Memref.isWhole_whole _)
      (Memref.whole cc0_stg0_0) (Memref.isWhole_whole _) (Memref.whole cc0_stg1_0) (Memref.isWhole_whole _)
      (Memref.whole main_v1) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9) (fun _ => bodyPost m ρ c)
  unfold bodyPre Φ₀ start ghost stgAt Dat.owesAt Pipeline.owesWithin
  iintro ⟨⟨⟨⟨%K, Hi, Hm, Hp, Ht⟩, Hl, Hc, Hs, Hidle, Ho, Hin⟩, Hscr⟩, ⟨%W, %hW, HO⟩, ⟨%d0, ⟨%g0, %hg0, Hs0⟩⟩, ⟨%d1, ⟨%g1, %hg1, Hs1⟩⟩⟩
  have h0 : g0 = stg0 m c := by rw [hg0]; unfold Dat.before; rw [if_pos (fetch_0 t₀)]; rfl
  have h1 : g1 = stg1 m c := by rw [hg1]; unfold Dat.before; rw [if_pos (fetch_1 t₀)]; rfl
  subst h0; subst h1
  rw [show (dats m ρ 0 c).owed t₀.castSucc = O₀ c from rfl]
  ihave Hscr := (scratch_cut (F := F) c) $$ Hscr
  icases Hscr with ⟨Hsl, Hco⟩
  iapply (body_run m K c W (stg0 m c) (stg1 m c) fun _ => bodyPost m ρ c)
  isplitl [Hi]; · iexact Hi
  isplitl [Hm]; · iexact Hm
  isplitl [Hl]; · iexact Hl
  isplitl [Hp]; · iexact Hp
  isplitl [Ht]; · iexact Ht
  isplitl [Hc]; · iexact Hc
  isplitl [Hs]; · iexact Hs
  isplitl [Hsl]; · iexact Hsl
  isplitl [Hco]; · iexact Hco
  isplitl [Ho]; · iexact Ho
  isplitl [Hin]; · iexact Hin
  isplitl [Hs0 Hs1]
  · unfold scales
    isplitl [Hs0]; · iexact Hs0
    iexact Hs1
  isplitl [HO]; · iexact HO
  unfold scales bodyPost Φ₁ stgAt Dat.owesAt Pipeline.owesWithin
  rw [show (dats m ρ 0 c).owed t₀.succ = 0 from rfl]
  iintro ⟨Hs, Hcl, Hsl, Hco, Hr, Hin, ⟨Hs0, Hs1⟩, ⟨%W', HO⟩⟩
  isplitl [Hcl Hs Hidle Hsl Hco Hr]
  · isplitl [Hcl]; · iexact Hcl
    isplitl [Hs]; · iexact Hs
    isplitl [Hidle]; · iexact Hidle
    isplitl [Hsl Hco]
    · iapply (scratch_join (F := F) c)
      isplitl [Hsl]; · iexact Hsl
      iexact Hco
    iexact Hr
  isplitl [HO]
  · iexists W'
    isplitr
    · ipureintro; exact fun _ _ => Or.inl trivial
    iexact HO
  isplitl [Hs0]
  · iexists (stg0 m c)
    isplitr
    · ipureintro; rfl
    iexact Hs0
  iexists (stg1 m c)
  isplitr
  · ipureintro; rfl
  iexact Hs1

/-! ## Before and after -/

/-- What stays outside the body: the rest of the two inputs' shares. -/
def kept (c : Dev nD) : sProp 𝕄 :=
  iprop((((c : Thread nD τ).loc main_arg0) ↦{Transfers.shareDrop fullShare 4} m ((c : Thread nD τ).loc main_arg0))
    ∗ (((c : Thread nD τ).loc main_arg1) ↦{Transfers.shareDrop fullShare 14} m ((c : Thread nD τ).loc main_arg1)))

/-- What device `c` hands back: the runtime's semaphores at zero and its result. -/
def left (c : Dev nD) : sProp 𝕄 :=
  iprop(unscopedSems0 c ∗ ∃ g : Buf (Elt F) ((c : Thread nD τ).loc main_v1), ⌜∀ k, ResCol m c (stg0 m c) (stg1 m c) k g⌝ ∗ ((c : Thread nD τ).loc main_v1) ↦{fullShare} g)

/-- The windows are held at the full share. -/
theorem share_eq (c : Dev nD) (w : Fin cfg0.W) : (dats m ρ 0 c).share w = fullShare := by unfold Dat.share; split <;> rfl

omit [FloatOps F] in
/-- One more read token taken from an array's share; -/
theorem tok_step (ℓ : Loc nD τ sig) (k : ℕ) (f : Buf (Elt F) ℓ) :
    (ℓ ↦{Transfers.shareDrop fullShare k} f : sProp 𝕄) ⊢ iprop((ℓ ↦{Transfers.shareDrop fullShare (k + 1)} f) ∗ ℓ ↦{Transfers.shareTokN fullShare k} f) :=
  (pointsTo_share (PosShare.mem_left_op_right _)).1
omit [FloatOps F] in
/-- and what remains after the first `k`. -/
theorem tok_drop (ℓ : Loc nD τ sig) (k : ℕ) (f : Buf (Elt F) ℓ) : (ℓ ↦{fullShare} f : sProp 𝕄) ⊢ (ℓ ↦{Transfers.shareDrop fullShare k} f) := by
  induction k with
  | zero => exact .rfl
  | succ k ih =>
    refine ih.trans ((tok_step ℓ k f).trans ?_)
    iintro ⟨H, -⟩; iexact H

/-- A device's start, from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  iintro ⟨⟨Hx, Hw, Ho⟩, Hlev, Hcr, -, HG⟩
  ihave Hc := (creds_intro (F := F) c) $$ Hcr
  ihave Hx := (tok_drop (F := F) ((c : Thread nD τ).loc main_arg0) 2 _) $$ Hx
  ihave Hx := (tok_step (F := F) ((c : Thread nD τ).loc main_arg0) 2 _) $$ Hx
  icases Hx with ⟨Hx, Hx2⟩
  ihave Hx := (tok_step (F := F) ((c : Thread nD τ).loc main_arg0) 3 _) $$ Hx
  icases Hx with ⟨Hx, Hx3⟩
  ihave Hw := (tok_drop (F := F) ((c : Thread nD τ).loc main_arg1) 11 _) $$ Hw
  ihave Hw := (tok_step (F := F) ((c : Thread nD τ).loc main_arg1) 11 _) $$ Hw
  icases Hw with ⟨Hw, Hw1⟩
  ihave Hw := (tok_step (F := F) ((c : Thread nD τ).loc main_arg1) 12 _) $$ Hw
  icases Hw with ⟨Hw, Hw2⟩
  ihave Hw := (tok_step (F := F) ((c : Thread nD τ).loc main_arg1) 13 _) $$ Hw
  icases Hw with ⟨Hw, Hw3⟩
  unfold G'
  icases HG with ⟨Hg, Hs, Hid⟩
  imodintro
  unfold start kept ins
  isplitr [Hx Hw]
  · isplitl [Hg]; · iexact Hg
    isplitl [Hlev]; · iexact Hlev
    isplitl [Hc]; · iexact Hc
    isplitl [Hs]; · iexact Hs
    isplitl [Hid]; · iexact Hid
    isplitl [Ho]
    · iapply (outs_cut (F := F) c)
      iexists (m ((c : Thread nD τ).loc main_v1)); iexact Ho
    isplitl [Hx2]; · iexact Hx2
    isplitl [Hx3]; · iexact Hx3
    isplitl [Hw1]; · iexact Hw1
    isplitl [Hw2]; · iexact Hw2
    iexact Hw3
  isplitl [Hx]; · iexact Hx
  iexact Hw

/-- What the body has before its run, from the start and the region's scratch. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What the body leaves, as the scratch given back and what the device keeps. -/
theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left
  iintro ⟨Hcl, Hs, Hid, Hscr, Hr⟩
  ihave H := (sems0_join (F := F) c) $$ [Hcl Hs Hid]
  · isplitl [Hcl]; · iexact Hcl
    isplitl [Hs]; · iexact Hs
    iexact Hid
  icases H with ⟨Hu, Ho⟩
  ihave Hr := (res_join m c (stg0 m c) (stg1 m c)) $$ Hr
  isplitl [Hu Hr]
  · isplitl [Hu]; · iexact Hu
    iexact Hr
  isplitl [Ho]; · iexact Ho
  unfold scratch
  iexact Hscr

omit [FloatOps F] in
/-- A core that owes nothing may wait. -/
theorem mayWait_zero (c : Dev nD) (q : DmaSem sig) : (levAts L lv : sProp 𝕄) ⊢ MayWait (Dev.tc c) (.dma q) () 0 := by
  rw [MayWait_zero]; iintro -; iempintro

/-- The staging semaphores are not among the receive cells, -/
theorem stage_low : ∀ (w : Fin cfg0.W) (s : Fin (cfg0.win w).nbuf), ¬ IsRecvS (.dma ((cfg0.win w).sem s)) := by
  intro w s; fin_cases w <;> fin_cases s <;> decide

/-- so the pipeline may wait for them, before the body and after it. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (stage_low w s)
    · exact mayWait_zero c _

/-! ## The run -/

/-- What a run that ends has left on device `c`: the two inputs in HBM as they were, the result as the body computed it. -/
def LeftAt (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ ∀ k, ResCol m c (stg0 m c) (stg1 m c) k (s.mem ((c : Thread nD τ).loc main_v1))

/-- The final memory read from what is handed back. -/
theorem read_left (c : Dev nD) (s' : Phys nD τ sig (Elt F)) :
    iprop(left m c ∗ kept m c ∗ SI s')
      ⊢ |={Set.univ}=> iprop(⌜(∀ sm : SemLoc sig, sm.isScoped .tc = false → s'.mem.sem ((c.tc : Thread nD τ), sm) = 0) ∧ LeftAt m c s'.mem⌝ ∗ (SI s' : sProp 𝕄)) := by
  unfold left kept
  iintro ⟨⟨Hu, ⟨%g, %hg, Ho⟩⟩, ⟨Hx, Hw⟩, HSI⟩
  icombine HSI Ho gives %ho
  icombine HSI Hx gives %hx
  icombine HSI Hw gives %hw
  imod (Idealize.ShloMosaic.Pipeline.unscopedSems0_read (X := unscopedSems0 c) (c := c) fupd_intro s') $$ [Hu HSI] with H
  · isplitl [Hu] <;> iassumption
  icases H with ⟨%hs, HSI⟩
  imodintro
  isplitr
  · ipureintro
    refine ⟨hs, Buf.eq_of_forall_mem_univ hx, Buf.eq_of_forall_mem_univ hw, ?_⟩
    rw [Buf.eq_of_forall_mem_univ ho]; exact hg
  iexact HSI

/-- What every run leaves: on every device the four inputs as they were and the result as the body computed it. -/
def QC : PUnit × MemSt nD τ sig (Elt F) → Prop := fun r => ∀ c : Dev nD,
  (∀ w : Fin cfg0.W, r.2.mem ((cfg0.win w).arr.view.loc (c : Thread nD τ)) = (dats m ρ 0 c).arrAt w cfg0.N) ∧ LeftAt m c r.2

omit [FloatOps F] in
/-- The protocol's share of the launch's ghost state. -/
theorem ring_share : (BI.own (((Emb.inl : Emb UB (UB × Counters)).trans (embR (A := UR sig nD τ))) (initOf ringCells ringToks)) : sProp 𝕄) ⊢ BI.own (ER (initOf ringCells ringToks)) :=
  Entails.of_eq rfl

/-- The launch's ghost state: the pipeline's, and the protocol's. -/
theorem launch_ghost : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb _ _ _) $$ HX
  icases HX with ⟨HX, -⟩
  ihave HX := (ring_share (F := F)) $$ HX
  imod (fund_ring m) $$ HX with HG
  imodintro
  isplitl [HP] <;> iassumption

set_option maxRecDepth 40000 in
/-- At the compiled mesh of four devices, for any float values, from any memory with zero counters: every weakly fair
    execution of @main terminates, and every final state has the inputs unchanged, the result as the body computed it and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := launch_ghost m) (hglob := glob m)
    (hA := fun _ _ => rfl) (hpf := fun _ k => k.elim0)
    (X := start m) (Y := left m) (Z := kept m)
    (hX := start_intro m ρ) (hin := phi0_intro m ρ) (hout := phi1_exit m ρ)
    (QY := fun c s => (∀ sm : SemLoc sig, sm.isScoped .tc = false → s.sem ((c.tc : Thread nD τ), sm) = 0) ∧ LeftAt m c s)
    (hY := read_left m)
    (hQ := fun _ h hs => ⟨fun c => ⟨(h c).1, (h c).2.2.2⟩, sem_eq_zero hs fun c => (h c).2.2.1⟩)

/-- The scales hold what they held. -/
theorem arrAt_0 (c : Dev nD) : (dats m ρ 0 c).arrAt (0 : Fin 2) cfg0.N = m ((c : Thread nD τ).loc main_arg2) :=
  (dats (F := F) m ρ 0 c).arrAt_in (0 : Fin 2) rfl _
theorem arrAt_1 (c : Dev nD) : (dats m ρ 0 c).arrAt (1 : Fin 2) cfg0.N = m ((c : Thread nD τ).loc main_arg3) :=
  (dats (F := F) m ρ 0 c).arrAt_in (1 : Fin 2) rfl _

/-- Every run leaves the four inputs of every device as they were and every counter at zero. -/
theorem frame : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
    ∧ r.2.sem = fun _ => 0) :=
  (θ_run _ _ _).mono (fun r h => ⟨fun c => ⟨(h.1 c).2.1, (h.1 c).2.2.1, ((h.1 c).1 (0 : Fin 2)).trans (arrAt_0 m ρ c), ((h.1 c).1 (1 : Fin 2)).trans (arrAt_1 m ρ c)⟩, h.2⟩) (run_main m ρ)

end Cert.KernelIdealProof
-- ==== Proof.Value.Column.lean ====
/-
  What the kernel computes, over the extended reals.

  A column block of device `c`'s result is four products of blocks, summed and scaled. Here each block is read at an
  index of the whole arrays: block `d` that device `s` sends is the rows of device `s + d` of its quarter of `x`, and the
  quarter is columns `1024 s …` of the whole `x`. So the four products are the four quarters of one row by one column,
  in the order that the blocks are awaited.
-/
module

public import proofs.«01_k».proof.Proof.KernelIdeal.Run
public import Idealize.ShloMosaic.Lib.Pointwise
public import Idealize.ShloMosaic.Lib.Layout

@[expose] public section

noncomputable section

namespace Cert.KernelIdealProof

open Cert.KernelIdeal Cert.KernelIdeal.Gen
open Idealize.ShloMosaic Idealize.ShloMosaic.TcCoe

/-- Place `a` of the quarter `s` of an axis of 4096. -/
def at4 (s : Fin 4) (a : Fin 1024) : Fin 4096 := ⟨s.val * 1024 + a.val, by omega⟩

/-- The part of row `i` by column `j` that lies in quarter `s` of the contraction. -/
def part (X : Vec Ideal ⟨2, ![4096, 4096]⟩ .fp8e4m3) (W : Vec Ideal ⟨2, ![4096, 8192]⟩ .fp8e5m2) (i : Fin 4096) (j : Fin 8192) (s : Fin 4) : EReal :=
  ∑ a : Fin 1024, X (ix2 i (at4 s a)) * W (ix2 (at4 s a) j)

/-- The four quarters make the whole row by the whole column. -/
theorem sum_part (X : Vec Ideal ⟨2, ![4096, 4096]⟩ .fp8e4m3) (W : Vec Ideal ⟨2, ![4096, 8192]⟩ .fp8e5m2) (i : Fin 4096) (j : Fin 8192) :
    ∑ s : Fin 4, part X W i j s = ∑ k : Fin 4096, X (ix2 i k) * W (ix2 k j) := by
  unfold part
  rw [← Fintype.sum_prod_type']
  refine Fintype.sum_equiv (finProdFinEquiv (m := 4) (n := 1024)) _ (fun k : Fin 4096 => X (ix2 i k) * W (ix2 k j)) fun p => ?_
  have e : at4 p.1 p.2 = (finProdFinEquiv p : Fin (4 * 1024)) := Fin.ext (by show p.1.val * 1024 + p.2.val = p.2.val + 1024 * p.1.val; omega)
  rw [e]

/-- The other three devices, as each device counts them. -/
theorem nb_cases : ∀ c : Dev nD, (c = 0 ∧ nb 3 c = 3 ∧ nb 1 c = 1 ∧ nb 2 c = 2) ∨ (c = 1 ∧ nb 3 c = 0 ∧ nb 1 c = 2 ∧ nb 2 c = 3)
    ∨ (c = 2 ∧ nb 3 c = 1 ∧ nb 1 c = 3 ∧ nb 2 c = 0) ∨ (c = 3 ∧ nb 3 c = 2 ∧ nb 1 c = 0 ∧ nb 2 c = 1) := by decide

/-- Going `4 - d` devices on and then `d` more is going round. -/
theorem nb_back : ∀ (d : Fin 4) (c : Dev nD), nb d.val (nb (4 - d.val) c) = c := by decide
theorem nb_four : ∀ c : Dev nD, nb (4 - (0 : Fin 4).val) c = c := by decide

/-- A device takes the quarters in its own order, and the order does not matter. -/
theorem sum_order (c : Dev nD) (f : Fin 4 → EReal) : f c + f (nb 3 c) + f (nb 1 c) + f (nb 2 c) = ∑ s : Fin 4, f s := by
  rw [Fin.sum_univ_four]
  rcases nb_cases c with ⟨e, e3, e1, e2⟩ | ⟨e, e3, e1, e2⟩ | ⟨e, e3, e1, e2⟩ | ⟨e, e3, e1, e2⟩ <;> rw [e3, e1, e2, e] <;> abel

/-- A product of two blocks at an index. -/
theorem mm_apply (a : Vec Ideal S1024x1024 .fp8e4m3) (b : Vec Ideal S1024x1024 .fp8e5m2) (r j : Fin 1024) :
    mm a b (ix2 r j) = ∑ k : Fin 1024, a (ix2 r k) * b (ix2 k j) := by
  pointwise [mm]

/-- A column block at an index: the four products there, summed from the left, by the scale. -/
theorem outBlk_apply (sc : EReal) (a0 a1 a2 a3 : Vec Ideal S1024x1024 .fp8e4m3) (b0 b1 b2 b3 : Vec Ideal S1024x1024 .fp8e5m2) (r j : Fin 1024) :
    outBlk (F := Ideal) sc a0 a1 a2 a3 b0 b1 b2 b3 (ix2 r j)
      = (mm a0 b0 (ix2 r j) + mm a1 b1 (ix2 r j) + mm a2 b2 (ix2 r j) + mm a3 b3 (ix2 r j)) * sc := rfl

variable (m : (ℓ : Loc nD τ sig) → Buf (Elt Ideal) ℓ)

/-- The blocks of `x` at the offsets: block `d` of device `s` is the rows of device `s + d`. -/
theorem off3_eq : ∀ (s : Dev nD) (d : Fin 4), k0_off3 s (BitVec.ofNat 32 d.val) = ![(nb d.val s).val * 1024, 0] := by decide

/-- A block of `w` at an index, from where the block begins. -/
theorem wblk_apply (c : Dev nD) (off : Fin 2 → ℕ) (h : ∀ a, off a + S1024x1024.size a ≤ S4096x8192.size a) (s : Fin 4) (o : ℕ) (e : off = ![s.val * 1024, o])
    (k j : Fin 1024) (ho : o + j.val < 8192) :
    wblk m c off h (ix2 k j) = m ((c : Thread nD τ).loc main_arg1) (ix2 (at4 s k) ⟨o + j.val, ho⟩) := by
  subst e
  exact congrArg (m ((c : Thread nD τ).loc main_arg1)) (funext fun a => Fin.ext (by
    match a with
    | ⟨0, _⟩ => show s.val * 1024 + 1 * k.val = s.val * 1024 + k.val; omega
    | ⟨1, _⟩ => show o + 1 * j.val = o + j.val; omega))

/-- A block of the quarter of `x` at an index of the quarter. -/
theorem xblk_apply (s : Dev nD) (d : Fin 4) (h : ∀ a, (k0_off3 s (BitVec.ofNat 32 d.val)) a + S1024x1024.size a ≤ S4096x1024.size a) (r k : Fin 1024) :
    xblk m s (BitVec.ofNat 32 d.val) h (ix2 r k) = m ((s : Thread nD τ).loc main_arg0) (ix2 (at4 (nb d.val s) r) k) := by
  have e0 : k0_off3 s (BitVec.ofNat 32 d.val) 0 = (nb d.val s).val * 1024 := by rw [off3_eq]; rfl
  have e1 : k0_off3 s (BitVec.ofNat 32 d.val) 1 = 0 := by rw [off3_eq]; rfl
  exact congrArg (m ((s : Thread nD τ).loc main_arg0)) (funext fun a => Fin.ext (by
    match a with
    | ⟨0, _⟩ => show k0_off3 s (BitVec.ofNat 32 d.val) 0 + 1 * r.val = (nb d.val s).val * 1024 + r.val; omega
    | ⟨1, _⟩ => show k0_off3 s (BitVec.ofNat 32 d.val) 1 + 1 * k.val = k.val; omega))

/-- The only place of a one-word array. -/
abbrev word : S1.Idx := Shape.Idx.first (by decide)

/-- The scale is the product of the two scale words. -/
theorem scaleOf_eq (c : Dev nD) (sx sw : Vec Ideal S1 .f32) (hsx : m ((c : Thread nD τ).loc main_arg2) = sx) (hsw : m ((c : Thread nD τ).loc main_arg3) = sw) :
    scaleOf (F := Ideal) c (stg0 m c) (stg1 m c) = (sx word * sw word : EReal) := by
  subst hsx hsw
  exact congrArg₂ (fun a b : EReal => a * b)
    (congrArg (m ((c : Thread nD τ).loc main_arg2)) (funext fun a => by match a with | ⟨0, _⟩ => rfl))
    (congrArg (m ((c : Thread nD τ).loc main_arg3)) (funext fun a => by match a with | ⟨0, _⟩ => rfl))

/-- A column block of device `c`'s result, when every device holds its quarter of the columns of `X` and all hold `W`:
    at row `r` and column `j` of the block it is row `1024 c + r` of `X` by column `o + j` of `W`, times the scale. -/
theorem colOf_apply (X : Vec Ideal ⟨2, ![4096, 4096]⟩ .fp8e4m3) (W : Vec Ideal ⟨2, ![4096, 8192]⟩ .fp8e5m2) (sx sw : Vec Ideal S1 .f32)
    (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = W)
    (hsx : ∀ c : Dev nD, m ((c : Thread nD τ).loc main_arg2) = sx) (hsw : ∀ c : Dev nD, m ((c : Thread nD τ).loc main_arg3) = sw)
    (off : Dev nD → BitVec 32 → Fin 2 → ℕ) (h : ∀ d0 : Dev nD, ∀ r : Fin 4, ∀ a, (off d0 (BitVec.ofNat 32 r.val)) a + S1024x1024.size a ≤ S4096x8192.size a)
    (o : ℕ) (e : ∀ (c : Dev nD) (d : Fin 4), off c (BitVec.ofNat 32 d.val) = ![(nb (4 - d.val) c).val * 1024, o]) (c : Dev nD) (r j : Fin 1024) (ho : o + j.val < 8192) :
    colOf m off h c (stg0 m c) (stg1 m c) (ix2 r j)
      = (∑ k : Fin 4096, X (ix2 (at4 c r) k) * W (ix2 k ⟨o + j.val, ho⟩))
        * (sx word * sw word) := by
  have hx (s : Dev nD) (r k : Fin 1024) (d : Fin 4) (hd : nb d.val s = c) (h' : ∀ a, (k0_off3 s (BitVec.ofNat 32 d.val)) a + S1024x1024.size a ≤ S4096x1024.size a) :
      xblk m s (BitVec.ofNat 32 d.val) h' (ix2 r k) = X (ix2 (at4 c r) (at4 s k)) := by
    rw [xblk_apply, hX, hd]
    exact congrArg X (funext fun a => Fin.ext (by match a with | ⟨0, _⟩ => rfl | ⟨1, _⟩ => rfl))
  have hp (s : Dev nD) (d : Fin 4) (hd' : nb (4 - d.val) c = s)
      (h' : ∀ a, (k0_off3 s (BitVec.ofNat 32 d.val)) a + S1024x1024.size a ≤ S4096x1024.size a) :
      mm (xblk m s (BitVec.ofNat 32 d.val) h') (wblk m c (off c (BitVec.ofNat 32 d.val)) (h c d)) (ix2 r j) = part X W (at4 c r) ⟨o + j.val, ho⟩ s := by
    have hd : nb d.val s = c := by rw [← hd', nb_back]
    rw [mm_apply]
    unfold part
    refine Finset.sum_congr rfl fun k _ => ?_
    rw [hx s r k d hd h', wblk_apply m c _ _ s o (by rw [e, hd']) k j ho, hW]
  have p0 := hp c 0 (nb_four c) (k0_off3_inb c 0)
  have p1 := hp (nb 3 c) 1 rfl (k0_off3_inb (nb 3 c) 1)
  have p3 := hp (nb 1 c) 3 rfl (k0_off3_inb (nb 1 c) 3)
  have p2 := hp (nb 2 c) 2 rfl (k0_off3_inb (nb 2 c) 2)
  unfold colOf outOf
  rw [outBlk_apply, scaleOf_eq m c sx sw (hsx c) (hsw c), ← sum_part, ← sum_order c]
  exact congrArg (fun t : EReal => t * _) (congrArg₂ (fun a b : EReal => a + b) (congrArg₂ (fun a b : EReal => a + b) (congrArg₂ (fun a b : EReal => a + b) p0 p1) p3) p2)

end Cert.KernelIdealProof
-- ==== Proof.Value.Reference.lean ====
/-
  What the reference computes.

  The reference has no grid: it runs its body once, on whole arrays. The generated run names the result array through
  the window that writes it back; here that array is opened, first as the body's one stored value of the four argument
  arrays, then over the extended reals at a row and a column: the sum over the 4096 contracted places of the products,
  times the product of the two scales.
-/
module

public import proofs.«01_k».proof.Proof.Gen.ReferenceIdeal.Value
public import Idealize.ShloMosaic.Lib.Pointwise

@[expose] public section

noncomputable section

namespace Cert.ReferenceIdeal.RefValue

open Cert.ReferenceIdeal Cert.ReferenceIdeal.Gen Cert.ReferenceIdeal.Value
open Idealize.ShloMosaic Idealize.ShloMosaic.TcCoe Idealize.SL.Sem

section Arrays

variable {F : FTy → Type} [FloatOps F]

/-- The only place of a one-word array. -/
def word : S1.Idx := Shape.Idx.first (by decide)

/-- The result array as a function of the four argument arrays: the value that the body stores. -/
def result (x : Vec F S4096x4096 .fp8e4m3) (w : Vec F S4096x8192 .fp8e5m2) (sx sw : Vec F S1 .f32) : Vec F S4096x8192 .f32 :=
  k0_pay1 x w (sx word) (sw word)

theorem off2_zero : (![0, 0] : Fin 2 → ℕ) = fun _ => 0 := by decide

set_option maxRecDepth 65536 in
/-- The body's one store covers the output, and what it stores is `result` of what the four inputs hold. -/
theorem stored_eq (c : Dev nD) (a0 : Memref sig .tc .vmem S4096x4096 .fp8e4m3) (h0 : a0.IsWhole) (a1 : Memref sig .tc .vmem S4096x8192 .fp8e5m2) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x : Vec F S4096x4096 .fp8e4m3) (w : Vec F S4096x8192 .fp8e5m2) (sx sw : Vec F S1 .f32) :
    out0_A_4 c a0 h0 a1 h1 a2 h2 a3 h3 a4 h4 x w sx sw = result x w sx sw := by
  unfold out0_A_4
  rw [View.read_writes_junk_eq_canon]
  show View.canon ([⟨Rect.unit ![0, 0] S4096x8192.size inb_S4096x8192_S4096x8192_0_0, k0_pay1
    (a0.view.readAt (Elt F) (Rect.unit ![0, 0] S4096x4096.size inb_S4096x4096_S4096x4096_0_0).toLoadRect (h0.unread x))
    (a1.view.readAt (Elt F) (Rect.unit ![0, 0] S4096x8192.size inb_S4096x8192_S4096x8192_0_0).toLoadRect (h1.unread w))
    (a2.view.readAt (Elt F) (Rect.unit (s := S1) ![0] S1.size inb_S1_S1_0).toLoadRect (h2.unread sx) _)
    (a3.view.readAt (Elt F) (Rect.unit (s := S1) ![0] S1.size inb_S1_S1_0).toLoadRect (h3.unread sw) _)⟩] : List (View.Piece (Elt F) S4096x8192 .f32)) = _
  rw [View.canon_unit_zero off2_zero]
  rw [View.readAt_eq_ld, View.readAt_eq_ld, View.readAt_eq_ld, View.readAt_eq_ld, h0.read_unread, h1.read_unread, h2.read_unread, h3.read_unread,
    View.ld_unit_zero off2_zero, View.ld_unit_zero off2_zero]
  exact congrArg₂ (k0_pay1 x w) (congrArg sx (funext fun a => by match a with | ⟨0, _⟩ => rfl)) (congrArg sw (funext fun a => by match a with | ⟨0, _⟩ => rfl))

variable (m : (ℓ : Loc nD τ sig) → Buf (Elt F) ℓ) (ρ : Dev nD → PrngReg)

/-- A window's one block is its whole array, so what is read through it is the array. -/
theorem read_blk0 (t : Fin cfg0.N) (f : Vec F S4096x4096 .fp8e4m3) : ((cfg0.win 0).blk t).view.read (Elt F) f = f :=
  funext fun j => congrArg f (funext fun a => Fin.ext (by show 0 * _ + 1 * (j a).val = (j a).val; omega))
theorem read_blk1 (t : Fin cfg0.N) (f : Vec F S4096x8192 .fp8e5m2) : ((cfg0.win 1).blk t).view.read (Elt F) f = f :=
  funext fun j => congrArg f (funext fun a => Fin.ext (by show 0 * _ + 1 * (j a).val = (j a).val; omega))
theorem read_blk2 (t : Fin cfg0.N) (f : Vec F S1 .f32) : ((cfg0.win 2).blk t).view.read (Elt F) f = f :=
  funext fun j => congrArg f (funext fun a => Fin.ext (by show 0 * _ + 1 * (j a).val = (j a).val; omega))
theorem read_blk3 (t : Fin cfg0.N) (f : Vec F S1 .f32) : ((cfg0.win 3).blk t).view.read (Elt F) f = f :=
  funext fun j => congrArg f (funext fun a => Fin.ext (by show 0 * _ + 1 * (j a).val = (j a).val; omega))
theorem read_blk4 (t : Fin cfg0.N) (f : Vec F S4096x8192 .f32) : ((cfg0.win 4).blk t).view.read (Elt F) f = f :=
  funext fun j => congrArg f (funext fun a => Fin.ext (by show 0 * _ + 1 * (j a).val = (j a).val; omega))

/-- The result array after the run is `result` of the argument arrays. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  have t : Fin cfg0.N := ⟨0, by decide⟩
  have h := (read_blk4 t _).symm.trans ((blocks4 m c t (flush0_4 t)).trans (flushed4_A m c t))
  rw [h, stored_eq]
  show result (((cfg0.win 0).blk t).view.read (Elt F) (V m c main_arg0)) (((cfg0.win 1).blk t).view.read (Elt F) (V m c main_arg1))
    (((cfg0.win 2).blk t).view.read (Elt F) (V m c main_arg2)) (((cfg0.win 3).blk t).view.read (Elt F) (V m c main_arg3)) = _
  rw [read_blk0, read_blk1, read_blk2, read_blk3, V_main_arg0, V_main_arg1, V_main_arg2, V_main_arg3]

/-- Every run of the reference leaves `result` of the arguments, and the arguments as they were. -/
theorem run : θ_run defs (onTc (τ := τ) (main (F := F))) ⟨m, fun _ => 0, ρ⟩ fun r => ∀ c : Dev nD,
    r.2.mem ((c : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Arrays

/-- Over the extended reals, the result at a row and a column. -/
theorem result_apply (x : Vec Ideal S4096x4096 .fp8e4m3) (w : Vec Ideal S4096x8192 .fp8e5m2) (sx sw : Vec Ideal S1 .f32) (i : Fin 4096) (j : Fin 8192) :
    result x w sx sw (ix2 i j) = (∑ k : Fin 4096, x (ix2 i k) * w (ix2 k j)) * (sx word * sw word) := by
  pointwise [result, k0_pay1]

end Cert.ReferenceIdeal.RefValue
-- ==== Proof.Value.Equation.lean ====
/-
  The equation: the kernel's result on device `c` is block `c` of the rows of the reference's.

  The eight column blocks cover the result's columns, so an index of it lies in one of them, where the kernel has the
  whole row by the whole column, times the scale: what the reference has there. Then the claim: both programs end, the
  reference with its result, every device with its block of that.
-/
module

public import proofs.«01_k».proof.Defs
public import proofs.«01_k».proof.Proof.Value.Column
public import proofs.«01_k».proof.Proof.Value.Reference

@[expose] public section

noncomputable section

namespace Cert.KernelIdealProof

open Cert.KernelIdeal Cert.KernelIdeal.Gen
open Idealize.ShloMosaic Idealize.ShloMosaic.TcCoe

/-! ## Where the blocks of `w` begin

  Every one of the eight offset functions sends a device `c` and a distance `d` to the rows of device `c - d`, at a fixed
  column. -/

theorem off1_eq : ∀ (c : Dev nD) (d : Fin 4), k0_off1 c (BitVec.ofNat 32 d.val) = ![(nb (4 - d.val) c).val * 1024, 0] := by decide
theorem off2_eq : ∀ (c : Dev nD) (d : Fin 4), k0_off2 c (BitVec.ofNat 32 d.val) = ![(nb (4 - d.val) c).val * 1024, 1024] := by decide
theorem off4_eq : ∀ (c : Dev nD) (d : Fin 4), k0_off4 c (BitVec.ofNat 32 d.val) = ![(nb (4 - d.val) c).val * 1024, 2048] := by decide
theorem off5_eq : ∀ (c : Dev nD) (d : Fin 4), k0_off5 c (BitVec.ofNat 32 d.val) = ![(nb (4 - d.val) c).val * 1024, 3072] := by decide
theorem off6_eq : ∀ (c : Dev nD) (d : Fin 4), k0_off6 c (BitVec.ofNat 32 d.val) = ![(nb (4 - d.val) c).val * 1024, 4096] := by decide
theorem off7_eq : ∀ (c : Dev nD) (d : Fin 4), k0_off7 c (BitVec.ofNat 32 d.val) = ![(nb (4 - d.val) c).val * 1024, 5120] := by decide
theorem off8_eq : ∀ (c : Dev nD) (d : Fin 4), k0_off8 c (BitVec.ofNat 32 d.val) = ![(nb (4 - d.val) c).val * 1024, 6144] := by decide
theorem off9_eq : ∀ (c : Dev nD) (d : Fin 4), k0_off9 c (BitVec.ofNat 32 d.val) = ![(nb (4 - d.val) c).val * 1024, 7168] := by decide

/-! ## The result -/

section Result

variable (m : (ℓ : Loc nD τ sig) → Buf (Elt Ideal) ℓ)
  (X : Vec Ideal ⟨2, ![4096, 4096]⟩ .fp8e4m3) (W : Vec Ideal ⟨2, ![4096, 8192]⟩ .fp8e5m2) (sx sw : Vec Ideal S1 .f32)
  (hX : ∀ c : Dev nD, m ((c : Thread nD τ).loc main_arg0) = Layout.block ⟨2, ![4096, 1024]⟩ ⟨2, ![4096, 4096]⟩ 1 4 c X)
  (hW : ∀ c : Dev nD, m ((c : Thread nD τ).loc main_arg1) = W)
  (hsx : ∀ c : Dev nD, m ((c : Thread nD τ).loc main_arg2) = sx) (hsw : ∀ c : Dev nD, m ((c : Thread nD τ).loc main_arg3) = sw)

include hX hW hsx hsw in
/-- Contents that read in the column block at `o` what the kernel computed there are the reference's result there. -/
theorem read_col (off : Dev nD → BitVec 32 → Fin 2 → ℕ) (h : ∀ d0 : Dev nD, ∀ r : Fin 4, ∀ a, (off d0 (BitVec.ofNat 32 r.val)) a + S1024x1024.size a ≤ S4096x8192.size a)
    (o : ℕ) (e : ∀ (c : Dev nD) (d : Fin 4), off c (BitVec.ofNat 32 d.val) = ![(nb (4 - d.val) c).val * 1024, o])
    (ho : ∀ a, (![0, o] : Fin 2 → ℕ) a + S1024x1024.size a ≤ S1024x8192.size a) (c : Dev nD) (g : Vec Ideal S1024x8192 .f32)
    (hg : (oSl o ho).view.read (Elt Ideal) g = colOf m off h c (stg0 m c) (stg1 m c)) (r j : Fin 1024) (hj : o + j.val < 8192) :
    g (ix2 r ⟨o + j.val, hj⟩) = Cert.ReferenceIdeal.RefValue.result X W sx sw (ix2 (at4 c r) ⟨o + j.val, hj⟩) := by
  rw [Cert.ReferenceIdeal.RefValue.result_apply]
  refine Eq.trans ?_ (colOf_apply m X W sx sw hX hW hsx hsw off h o e c r j hj)
  rw [← hg]
  exact congrArg g (funext fun a => Fin.ext (by
    match a with
    | ⟨0, _⟩ => show r.val = 0 + 1 * r.val; omega
    | ⟨1, _⟩ => show o + j.val = o + 1 * j.val; omega))

include hX hW hsx hsw in
/-- A result whose eight column blocks are what the kernel computed is the device's block of the reference's result. -/
theorem result_eq (c : Dev nD) (g : Vec Ideal S1024x8192 .f32) (hg : ∀ k, ResCol m c (stg0 m c) (stg1 m c) k g) :
    g = Layout.block ⟨2, ![1024, 8192]⟩ ⟨2, ![4096, 8192]⟩ 0 4 c (Cert.ReferenceIdeal.RefValue.result X W sx sw) := by
  have key (k : Fin 8) (r j : Fin 1024) (hj : 1024 * k.val + j.val < 8192) :
      g (ix2 r ⟨1024 * k.val + j.val, hj⟩) = Cert.ReferenceIdeal.RefValue.result X W sx sw (ix2 (at4 c r) ⟨1024 * k.val + j.val, hj⟩) := by
    have hk := hg k
    match k with
    | 0 => exact read_col m X W sx sw hX hW hsx hsw _ _ 0 off1_eq _ c g hk r j hj
    | 1 => exact read_col m X W sx sw hX hW hsx hsw _ _ 1024 off2_eq _ c g hk r j hj
    | 2 => exact read_col m X W sx sw hX hW hsx hsw _ _ 2048 off4_eq _ c g hk r j hj
    | 3 => exact read_col m X W sx sw hX hW hsx hsw _ _ 3072 off5_eq _ c g hk r j hj
    | 4 => exact read_col m X W sx sw hX hW hsx hsw _ _ 4096 off6_eq _ c g hk r j hj
    | 5 => exact read_col m X W sx sw hX hW hsx hsw _ _ 5120 off7_eq _ c g hk r j hj
    | 6 => exact read_col m X W sx sw hX hW hsx hsw _ _ 6144 off8_eq _ c g hk r j hj
    | 7 => exact read_col m X W sx sw hX hW hsx hsw _ _ 7168 off9_eq _ c g hk r j hj
  have pair (i : Fin 1024) (j : Fin 8192) : g (ix2 i j) = Cert.ReferenceIdeal.RefValue.result X W sx sw (ix2 (at4 c i) j) := by
    have e : (⟨1024 * (j.val / 1024) + j.val % 1024, by omega⟩ : Fin 8192) = j := Fin.ext (Nat.div_add_mod _ _)
    have hk := key ⟨j.val / 1024, by omega⟩ i ⟨j.val % 1024, by omega⟩ (by show 1024 * (j.val / 1024) + j.val % 1024 < 8192; omega)
    rw [← e]
    exact hk
  funext i
  refine Eq.trans (congrArg g (funext fun a => ?_)) ((pair (i 0) (i 1)).trans (congrArg (Cert.ReferenceIdeal.RefValue.result X W sx sw) (funext fun a => Fin.ext ?_)))
  · match a with
    | ⟨0, _⟩ => rfl
    | ⟨1, _⟩ => rfl
  · match a with
    | ⟨0, _⟩ => rfl
    | ⟨1, _⟩ => rfl

end Result

/-! ## The claim -/

/-- Over the extended reals the kernel computes the reference: from any contents, when every device is given its quarter
    of the columns of the reference's first argument and the other three whole, every run of the kernel ends with the
    device's quarter of the rows of the reference's result on every device, and both leave the arguments as they were. -/
theorem algebraic : Cert.algebraic_KernelIdeal_ReferenceIdeal := by
  intro m g m' g' _ harg
  refine ⟨_, (θ_run _ _ _).mono (fun r h c => ⟨?_, (h.1 c).2.1, (h.1 c).2.2.1, ((h.1 c).1 (0 : Fin 2)).trans (arrAt_0 m g c), ((h.1 c).1 (1 : Fin 2)).trans (arrAt_1 m g c)⟩) (run_main m g),
    (θ_run _ _ _).mono (fun r h => h 0) (Cert.ReferenceIdeal.RefValue.run m' g')⟩
  exact result_eq m _ _ _ _ (fun c => (harg c).1) (fun c => (harg c).2.1) (fun c => (harg c).2.2.1) (fun c => (harg c).2.2.2) c _ (h.1 c).2.2.2

end Cert.KernelIdealProof
-- ==== Proof.lean ====
/-
  The proof of `Cert.Claim`.

  The frames of the kernel and of its idealized form come from one protocol proof, stated twice (Proof/Kernel/ and
  Proof/KernelIdeal/); the reference's frame is generated; the idealized form rewrites nothing; that the kernel computes
  the reference over the extended reals is Proof/Value/Equation.lean. The claims about the three programs also say that
  every semaphore counter ends at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.Value.Equation

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  fun m g _ => Cert.KernelProof.frame m g, fun m g _ => Cert.KernelIdealProof.frame m g, fun m g _ => Cert.ReferenceIdeal.Gen.frame m g, trivial,
  Cert.KernelIdealProof.algebraic⟩

end Cert.Proof

end
